-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lam_above_bottom [hPre_lam_above_bottom : Cert.Pre_lam_above_bottom.Facts] (m : (ℓ : Loc Cert.KernelIdeal.nD Cert.KernelIdeal.τ Cert.KernelIdeal.sig) → Buf (Elt Ideal) ℓ) : Prop :=
  ∀ c : Dev Cert.KernelIdeal.nD,
    (Cert.Pre_lam_above_bottom.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lam_above_bottom [hPre_lam_above_bottom : Cert.Pre_lam_above_bottom.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lam_above_bottom.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_lam_above_bottom [hKernelIdeal : Cert.KernelIdeal.Facts] [hPre_lam_above_bottom : Cert.Pre_lam_above_bottom.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lam_above_bottom m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_lam_above_bottom [hReferenceIdeal : Cert.ReferenceIdeal.Facts] [hPre_lam_above_bottom : Cert.Pre_lam_above_bottom.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lam_above_bottom m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def preserves_Kernel_KernelIdeal : Prop :=
  True

def algebraic_KernelIdeal_ReferenceIdeal_pre_lam_above_bottom [hKernelIdeal : Cert.KernelIdeal.Facts] [hReferenceIdeal : Cert.ReferenceIdeal.Facts] [hPre_lam_above_bottom : Cert.Pre_lam_above_bottom.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lam_above_bottom m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v94_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v51_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_lam_above_bottom : Cert.Pre_lam_above_bottom.Facts),
    quiescent_Kernel (hKernel := hKernel)
    ∧ quiescent_KernelIdeal (hKernelIdeal := hKernelIdeal)
    ∧ quiescent_KernelIdeal_pre_lam_above_bottom (hKernelIdeal := hKernelIdeal) (hPre_lam_above_bottom := hPre_lam_above_bottom)
    ∧ quiescent_ReferenceIdeal (hReferenceIdeal := hReferenceIdeal)
    ∧ quiescent_ReferenceIdeal_pre_lam_above_bottom (hReferenceIdeal := hReferenceIdeal) (hPre_lam_above_bottom := hPre_lam_above_bottom)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_lam_above_bottom (hKernelIdeal := hKernelIdeal) (hReferenceIdeal := hReferenceIdeal) (hPre_lam_above_bottom := hPre_lam_above_bottom)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_lam_above_bottom.lean ====
abbrev S8x4096x1024 : Shape := ⟨3, ![8, 4096, 1024]⟩
abbrev S2x16x64x64 : Shape := ⟨4, ![2, 16, 64, 64]⟩
abbrev S2x1024 : Shape := ⟨2, ![2, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S8x4096x1024 .f32) (main_arg1 : FVec F S2x16x64x64 .f32) (main_arg2 : FVec F S2x1024 .f32) (main_arg3 : FVec F S2x16x64x64 .f32) (main_arg4 : FVec F S2x1024 .f32) (main_arg5 : FVec F S2x1024 .f32) (main_arg6 : FVec F S8x1024 .f32) : IVec S_ 1 :=
  let main_v0 : FVec F S1x1024 .f32 := (extractStridedSlice S1x1024 ![0, 0] · slices_S2x1024_S1x1024_0_0) main_arg5
  let main_v1 : FVec F S1024 .f32 := shapeCast S1024 main_v0 shapeCasts_S1x1024_S1024
  let main_cst : FVec F S_ .f32 := constant S_ .f32 0xFF800000#32
  let main_v2 : FVec F S1024 .f32 := broadcastInDim S1024 ![] bcast_S_S1024 main_cst
  let main_v3 : IVec S1024 1 := cmpf .ogt main_v1 main_v2
  let main_c : IVec S_ 1 := constantI S_ 1 1#1
  let main_v4 : IVec S_ 1 := (fun x v => Host.reduce IntOp.andi x v reducesTo_S1024_S_d0 h_S_) main_v3 main_c
  main_v4
-- ==== Kernel.lean ====
abbrev S8x4096x1024 : Shape := ⟨3, ![8, 4096, 1024]⟩
abbrev S2x16x64x64 : Shape := ⟨4, ![2, 16, 64, 64]⟩
abbrev S2x1024 : Shape := ⟨2, ![2, 1024]⟩
abbrev S8x1024 : Shape := ⟨2, ![8, 1024]⟩
abbrev S1x16x64x64 : Shape := ⟨4, ![1, 16, 64, 64]⟩
abbrev S16x64x64 : Shape := ⟨3, ![16, 64, 64]⟩
abbrev S1x1024 : Shape := ⟨2, ![1, 1024]⟩
abbrev S1024 : Shape := ⟨1, ![1024]⟩
abbrev S4x4x64x64 : Shape := ⟨4, ![4, 4, 64, 64]⟩
abbrev S4x4 : Shape := ⟨2, ![4, 4]⟩
abbrev S_ : Shape := ⟨0, ![]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S4x1x256 : Shape := ⟨3, ![4, 1, 256]⟩
abbrev S4x1x512 : Shape := ⟨3, ![4, 1, 512]⟩
abbrev S1x4x256x512 : Shape := ⟨4, ![1, 4, 256, 512]⟩
abbrev S2x4x256x512 : Shape := ⟨4, ![2, 4, 256, 512]⟩
abbrev S1x4x1x512 : Shape := ⟨4, ![1, 4, 1, 512]⟩
abbrev S2x4x1x512 : Shape := ⟨4, ![2, 4, 1, 512]⟩
abbrev S2x1x1024 : Shape := ⟨3, ![2, 1, 1024]⟩
abbrev S4096x8x1024 : Shape := ⟨3, ![4096, 8, 1024]⟩
abbrev S32768x1024 : Shape := ⟨2, ![32768, 1024]⟩
abbrev S4096x256 : Shape := ⟨2, ![4096, 256]⟩
abbrev S1x1x256x512 : Shape := ⟨4, ![1, 1, 256, 512]⟩
abbrev S1x1x1x512 : Shape := ⟨4, ![1, 1, 1, 512]⟩
abbrev S1x1x256 : Shape := ⟨3, ![1, 1, 256]⟩
abbrev S8x256 : Shape := ⟨2, ![8, 256]⟩
abbrev S512x256 : Shape := ⟨2, ![512, 256]⟩
abbrev S1x256 : Shape := ⟨2, ![1, 256]⟩
abbrev S256x512 : Shape := ⟨2, ![256, 512]⟩
abbrev S512x512 : Shape := ⟨2, ![512, 512]⟩
abbrev S1x512 : Shape := ⟨2, ![1, 512]⟩

abbrev nBuf : Space → Nat
  | .hbm => 110
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S2x16x64x64, .f32⟩
  | .hbm, ⟨2, _⟩ => ⟨S2x1024, .f32⟩
  | .hbm, ⟨3, _⟩ => ⟨S2x16x64x64, .f32⟩
  | .hbm, ⟨4, _⟩ => ⟨S2x1024, .f32⟩
  | .hbm, ⟨5, _⟩ => ⟨S2x1024, .f32⟩
  | .hbm, ⟨6, _⟩ => ⟨S8x1024, .f32⟩
  | .hbm, ⟨7, _⟩ => ⟨S1x16x64x64, .f32⟩
  | .hbm, ⟨8, _⟩ => ⟨S16x64x64, .f32⟩
  | .hbm, ⟨9, _⟩ => ⟨S1x16x64x64, .f32⟩
  | .hbm, ⟨10, _⟩ => ⟨S16x64x64, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S4x4x64x64, .f32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4, .f32⟩
  | .hbm, ⟨23, _⟩ => ⟨S4x4x64x1x64, .f32⟩
  | .hbm, ⟨24, _⟩ => ⟨S1x4x1x4x1, .f32⟩
  | .hbm, ⟨25, _⟩ => ⟨S4x4x64x4x64, .f32⟩
  | .hbm, ⟨26, _⟩ => ⟨S4x4x64x4x64, .f32⟩
  | .hbm, ⟨27, _⟩ => ⟨S4x4x64x4x64, .f32⟩
  | .hbm, ⟨28, _⟩ => ⟨S4x256x256, .f32⟩
  | .hbm, ⟨29, _⟩ => ⟨S4x4x64x64, .f32⟩
  | .hbm, ⟨30, _⟩ => ⟨S4x4, .i32⟩
  | .hbm, ⟨31, _⟩ => ⟨S4x4, .i32⟩
  | .hbm, ⟨32, _⟩ => ⟨S_, .i32⟩
  | .hbm, ⟨33, _⟩ => ⟨S4x4, .i32⟩
  | .hbm, ⟨34, _⟩ => ⟨S4x4, .i32⟩
  | .hbm, ⟨35, _⟩ => ⟨S4x4, .i1⟩
  | .hbm, ⟨36, _⟩ => ⟨S4x4, .f32⟩
  | .hbm, ⟨37, _⟩ => ⟨S4x4x64x1x64, .f32⟩
  | .hbm, ⟨38, _⟩ => ⟨S1x4x1x4x1, .f32⟩
  | .hbm, ⟨39, _⟩ => ⟨S4x4x64x4x64, .f32⟩
  | .hbm, ⟨40, _⟩ => ⟨S4x4x64x4x64, .f32⟩
  | .hbm, ⟨41, _⟩ => ⟨S4x4x64x4x64, .f32⟩
  | .hbm, ⟨42, _⟩ => ⟨S4x256x256, .f32⟩
  | .hbm, ⟨43, _⟩ => ⟨S4x256x512, .f32⟩
  | .hbm, ⟨44, _⟩ => ⟨S4x256x512, .bf16⟩
  | .hbm, ⟨45, _⟩ => ⟨S4x1x256, .f32⟩
  | .hbm, ⟨46, _⟩ => ⟨S4x1x256, .f32⟩
  | .hbm, ⟨47, _⟩ => ⟨S4x1x512, .f32⟩
  | .hbm, ⟨48, _⟩ => ⟨S_, .f32⟩
  | .hbm, ⟨49, _⟩ => ⟨S4x1x512, .f32⟩
  | .hbm, ⟨50, _⟩ => ⟨S4x1x512, .f32⟩
  | .hbm, ⟨51, _⟩ => ⟨S1x16x64x64, .f32⟩
  | .hbm, ⟨52, _⟩ => ⟨S16x64x64, .f32⟩
  | .hbm, ⟨53, _⟩ => ⟨S1x16x64x64, .f32⟩
  | .hbm, ⟨54, _⟩ => ⟨S16x64x64, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S4x4x64x64, .f32⟩
  | .hbm, ⟨60, _⟩ => ⟨S4x4, .i32⟩
  | .hbm, ⟨61, _⟩ => ⟨S4x4, .i32⟩
  | .hbm, ⟨62, _⟩ => ⟨S_, .i32⟩
  | .hbm, ⟨63, _⟩ => ⟨S4x4, .i32⟩
  | .hbm, ⟨64, _⟩ => ⟨S4x4, .i32⟩
  | .hbm, ⟨65, _⟩ => ⟨S4x4, .i1⟩
  | .hbm, ⟨66, _⟩ => ⟨S4x4, .f32⟩
  | .hbm, ⟨67, _⟩ => ⟨S4x4x64x1x64, .f32⟩
  | .hbm, ⟨68, _⟩ => ⟨S1x4x1x4x1, .f32⟩
  | .hbm, ⟨69, _⟩ => ⟨S4x4x64x4x64, .f32⟩
  | .hbm, ⟨70, _⟩ => ⟨S4x4x64x4x64, .f32⟩
  | .hbm, ⟨71, _⟩ => ⟨S4x4x64x4x64, .f32⟩
  | .hbm, ⟨72, _⟩ => ⟨S4x256x256, .f32⟩
  | .hbm, ⟨73, _⟩ => ⟨S4x4x64x64, .f32⟩
  | .hbm, ⟨74, _⟩ => ⟨S4x4, .i32⟩
  | .hbm, ⟨75, _⟩ => ⟨S4x4, .i32⟩
  | .hbm, ⟨76, _⟩ => ⟨S_, .i32⟩
  | .hbm, ⟨77, _⟩ => ⟨S4x4, .i32⟩
  | .hbm, ⟨78, _⟩ => ⟨S4x4, .i32⟩
  | .hbm, ⟨79, _⟩ => ⟨S4x4, .i1⟩
  | .hbm, ⟨80, _⟩ => ⟨S4x4, .f32⟩
  | .hbm, ⟨81, _⟩ => ⟨S4x4x64x1x64, .f32⟩
  | .hbm, ⟨82, _⟩ => ⟨S1x4x1x4x1, .f32⟩
  | .hbm, ⟨83, _⟩ => ⟨S4x4x64x4x64, .f32⟩
  | .hbm, ⟨84, _⟩ => ⟨S4x4x64x4x64, .f32⟩
  | .hbm, ⟨85, _⟩ => ⟨S4x4x64x4x64, .f32⟩
  | .hbm, ⟨86, _⟩ => ⟨S4x256x256, .f32⟩
  | .hbm, ⟨87, _⟩ => ⟨S4x256x512, .f32⟩
  | .hbm, ⟨88, _⟩ => ⟨S4x256x512, .bf16⟩
  | .hbm, ⟨89, _⟩ => ⟨S4x1x256, .f32⟩
  | .hbm, ⟨90, _⟩ => ⟨S4x1x256, .f32⟩
  | .hbm, ⟨91, _⟩ => ⟨S4x1x512, .f32⟩
  | .hbm, ⟨92, _⟩ => ⟨S_, .f32⟩
  | .hbm, ⟨93, _⟩ => ⟨S4x1x512, .f32⟩
  | .hbm, ⟨94, _⟩ => ⟨S4x1x512, .f32⟩
  | .hbm, ⟨95, _⟩ => ⟨S1x4x256x512, .bf16⟩
  | .hbm, ⟨96, _⟩ => ⟨S1x4x256x512, .bf16⟩
  | .hbm, ⟨97, _⟩ => ⟨S2x4x256x512, .bf16⟩
  | .hbm, ⟨98, _⟩ => ⟨S1x4x1x512, .f32⟩
  | .hbm, ⟨99, _⟩ => ⟨S1x4x1x512, .f32⟩
  | .hbm, ⟨100, _⟩ => ⟨S2x4x1x512, .f32⟩
  | .hbm, ⟨101, _⟩ => ⟨S2x1x1024, .f32⟩
  | .hbm, ⟨102, _⟩ => ⟨S_, .f32⟩
  | .hbm, ⟨103, _⟩ => ⟨S8x4096x1024, .f32⟩
  | .hbm, ⟨104, _⟩ => ⟨S8x4096x1024, .f32⟩
  | .hbm, ⟨105, _⟩ => ⟨S4096x8x1024, .f32⟩
  | .hbm, ⟨106, _⟩ => ⟨S32768x1024, .f32⟩
  | .hbm, ⟨107, _⟩ => ⟨S32768x1024, .bf16⟩
  | .hbm, ⟨108, _⟩ => ⟨S32768x1024, .f32⟩
  | .hbm, ⟨109, _⟩ => ⟨S8x1024, .f32⟩
  | .local _ .vmem, ⟨0, _⟩ => ⟨S4096x256, .bf16⟩
  | .local _ .vmem, ⟨1, _⟩ => ⟨S4096x256, .bf16⟩
  | .local _ .vmem, ⟨2, _⟩ => ⟨S1x1x256x512, .bf16⟩
  | .local _ .vmem, ⟨3, _⟩ => ⟨S1x1x256x512, .bf16⟩
  | .local _ .vmem, ⟨4, _⟩ => ⟨S1x1x1x512, .f32⟩
  | .local _ .vmem, ⟨5, _⟩ => ⟨S1x1x1x512, .f32⟩
  | .local _ .vmem, ⟨6, _⟩ => ⟨S1x1x256, .f32⟩
  | .local _ .vmem, ⟨7, _⟩ => ⟨S1x1x256, .f32⟩
  | .local _ .vmem, ⟨8, _⟩ => ⟨S8x256, .f32⟩
  | .local _ .vmem, ⟨9, _⟩ => ⟨S8x256, .f32⟩
  | .local _ .vmem, ⟨10, _⟩ => ⟨S4096x256, .f32⟩
  | .local _ .vmem, ⟨11, _⟩ => ⟨S4096x256, .f32⟩
  | .local _ .vmem, ⟨12, _⟩ => ⟨S8x256, .f32⟩
  | .local _ .vmem, ⟨13, _⟩ => ⟨S8x256, .f32⟩
  | .local _ .vmem, ⟨14, _⟩ => ⟨S4096x256, .f32⟩
  | .local _ .vmem, ⟨15, _⟩ => ⟨S4096x256, .f32⟩
  | .local _ .vmem, ⟨16, _⟩ => ⟨S8x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_c_1 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_c_2 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_3 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_4 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94_0 : Ref sig .tc := ⟨.hbm, 108, rfl⟩
abbrev main_v94_1 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x4096x1024 : Shape := ⟨3, ![8, 4096, 1024]⟩
abbrev S2x16x64x64 : Shape := ⟨4, ![2, 16, 64, 64]⟩
abbrev S2x1024 : Shape := ⟨2, ![2, 1024]⟩
abbrev S8x1024 : Shape := ⟨2, ![8, 1024]⟩
abbrev S8x4096x16x64 : Shape := ⟨4, ![8, 4096, 16, 64]⟩
abbrev S1x16x64x64 : Shape := ⟨4, ![1, 16, 64, 64]⟩
abbrev S16x64x64 : Shape := ⟨3, ![16, 64, 64]⟩
abbrev S16x64x8x4096 : Shape := ⟨4, ![16, 64, 8, 4096]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S4096x8x1024 : Shape := ⟨3, ![4096, 8, 1024]⟩
abbrev S8x1x1024 : Shape := ⟨3, ![8, 1, 1024]⟩
abbrev S1x8x1024 : Shape := ⟨3, ![1, 8, 1024]⟩
abbrev S32768x1024 : Shape := ⟨2, ![32768, 1024]⟩

abbrev nBuf : Space → Nat
  | .hbm => 153
  | .vmem => 0
  | .smem => 0
  | _ => 0

abbrev hbmTy0_0 (i : Nat) : BufTy := match i % 128 with
  | 0 => ⟨S8x4096x1024, .f32⟩
  | 1 => ⟨S2x16x64x64, .f32⟩
  | 2 => ⟨S2x1024, .f32⟩
  | 3 => ⟨S2x16x64x64, .f32⟩
  | 4 => ⟨S2x1024, .f32⟩
  | 5 => ⟨S2x1024, .f32⟩
  | 6 => ⟨S8x1024, .f32⟩
  | 7 => ⟨S8x4096x16x64, .f32⟩
  | 8 => ⟨S1x16x64x64, .f32⟩
  | 9 => ⟨S16x64x64, .f32⟩
  | 10 => ⟨S16x64x8x4096, .f32⟩
  | 11 => ⟨S8x4096x16x64, .f32⟩
  | 12 => ⟨S8x4096x1024, .f32⟩
  | 13 => ⟨S1x1024, .f32⟩
  | 14 => ⟨S1024, .f32⟩
  | 15 => ⟨S1x1x1024, .f32⟩
  | 16 => ⟨S8x4096x1024, .f32⟩
  | 17 => ⟨S8x4096x1024, .f32⟩
  | 18 => ⟨S8x4096x1024, .f32⟩
  | 19 => ⟨S8x4096x1024, .f32⟩
  | 20 => ⟨S_, .f32⟩
  | 21 => ⟨S8x4096x1024, .f32⟩
  | 22 => ⟨S8x4096x1024, .f32⟩
  | 23 => ⟨S_, .f32⟩
  | 24 => ⟨S8x4096x1024, .f32⟩
  | 25 => ⟨S8x4096x1024, .f32⟩
  | 26 => ⟨S1x16x64x64, .f32⟩
  | 27 => ⟨S16x64x64, .f32⟩
  | 28 => ⟨S16x64x8x4096, .f32⟩
  | 29 => ⟨S8x4096x16x64, .f32⟩
  | 30 => ⟨S8x4096x1024, .f32⟩
  | 31 => ⟨S1x1024, .f32⟩
  | 32 => ⟨S1024, .f32⟩
  | 33 => ⟨S1x1x1024, .f32⟩
  | 34 => ⟨S8x4096x1024, .f32⟩
  | 35 => ⟨S8x4096x1024, .f32⟩
  | 36 => ⟨S8x4096x1024, .f32⟩
  | 37 => ⟨S8x4096x1024, .f32⟩
  | 38 => ⟨S_, .f32⟩
  | 39 => ⟨S8x4096x1024, .f32⟩
  | 40 => ⟨S8x4096x1024, .f32⟩
  | 41 => ⟨S_, .f32⟩
  | 42 => ⟨S8x4096x1024, .f32⟩
  | 43 => ⟨S8x4096x1024, .f32⟩
  | 44 => ⟨S_, .f32⟩
  | 45 => ⟨S8x4096x1024, .f32⟩
  | 46 => ⟨S8x4096x1024, .f32⟩
  | 47 => ⟨S1x1024, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S1024, .f32⟩
  | 55 => ⟨S1024, .i1⟩
  | 56 => ⟨S1024, .f32⟩
  | 57 => ⟨S1024, .f32⟩
  | 58 => ⟨S1024, .f32⟩
  | 59 => ⟨S1024, .f32⟩
  | 60 => ⟨S1024, .f32⟩
  | 61 => ⟨S1024, .f32⟩
  | 62 => ⟨S1024, .f32⟩
  | 63 => ⟨S1024, .f32⟩
  | 64 => ⟨S1x1x1024, .f32⟩
  | 65 => ⟨S8x4096x1024, .f32⟩
  | 66 => ⟨S8x4096x1024, .f32⟩
  | 67 => ⟨S8x4096x1024, .f32⟩
  | 68 => ⟨S_, .f32⟩
  | 69 => ⟨S8x4096x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S_, .f32⟩
  | 77 => ⟨S4096x8x1024, .f32⟩
  | 78 => ⟨S_, .i32⟩
  | 79 => ⟨S_, .i32⟩
  | 80 => ⟨S8x4096x1024, .f32⟩
  | 81 => ⟨S8x4096x1024, .f32⟩
  | 82 => ⟨S_, .i32⟩
  | 83 => ⟨S_, .i32⟩
  | 84 => ⟨S8x1024, .f32⟩
  | 85 => ⟨S4096x8x1024, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S8x1x1024, .f32⟩
  | 113 => ⟨S8x1024, .f32⟩
  | 114 => ⟨S8x1024, .f32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S8x4096x1024, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S8x1x1024, .f32⟩
  | 10 => ⟨S8x1024, .f32⟩
  | 11 => ⟨S8x1024, .f32⟩
  | 12 => ⟨S1x8x1024, .f32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S4096x8x1024, .f32⟩
  | 22 => ⟨S_, .i32⟩
  | 23 => ⟨S_, .i32⟩
  | 24 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_4 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_c : Ref sig .tc := ⟨.hbm, 78, rfl⟩
abbrev main_c_6 : Ref sig .tc := ⟨.hbm, 79, rfl⟩
abbrev main_v51_0 : Ref sig .tc := ⟨.hbm, 80, rfl⟩
abbrev main_v51_1 : Ref sig .tc := ⟨.hbm, 81, rfl⟩
abbrev main_v51_2 : Ref sig .tc := ⟨.hbm, 82, rfl⟩
abbrev main_v51_3 : Ref sig .tc := ⟨.hbm, 83, rfl⟩
abbrev main_v51_4 : Ref sig .tc := ⟨.hbm, 84, rfl⟩
abbrev main_v51_5 : Ref sig .tc := ⟨.hbm, 85, rfl⟩
abbrev main_while0c_c_12 : Ref sig .tc := ⟨.hbm, 86, rfl⟩
abbrev main_while0c_v53 : Ref sig .tc := ⟨.hbm, 87, rfl⟩
abbrev main_while0b_c_12 : Ref sig .tc := ⟨.hbm, 88, rfl⟩
abbrev main_while0b_v53 : Ref sig .tc := ⟨.hbm, 89, rfl⟩
abbrev main_while0b_v54 : Ref sig .tc := ⟨.hbm, 90, rfl⟩
abbrev main_while0b_c_13 : Ref sig .tc := ⟨.hbm, 91, rfl⟩
abbrev main_while0b_c_14 : Ref sig .tc := ⟨.hbm, 92, rfl⟩
abbrev main_while0b_v55 : Ref sig .tc := ⟨.hbm, 93, rfl⟩
abbrev main_while0b_c_15 : Ref sig .tc := ⟨.hbm, 94, rfl⟩
abbrev main_while0b_c_16 : Ref sig .tc := ⟨.hbm, 95, rfl⟩
abbrev main_while0b_v56 : Ref sig .tc := ⟨.hbm, 96, rfl⟩
abbrev main_while0b_c_17 : Ref sig .tc := ⟨.hbm, 97, rfl⟩
abbrev main_while0b_v57 : Ref sig .tc := ⟨.hbm, 98, rfl⟩
abbrev main_while0b_c_18 : Ref sig .tc := ⟨.hbm, 99, rfl⟩
abbrev main_while0b_v58 : Ref sig .tc := ⟨.hbm, 100, rfl⟩
abbrev main_while0b_c_19 : Ref sig .tc := ⟨.hbm, 101, rfl⟩
abbrev main_while0b_v59 : Ref sig .tc := ⟨.hbm, 102, rfl⟩
abbrev main_while0b_v60 : Ref sig .tc := ⟨.hbm, 103, rfl⟩
abbrev main_while0b_c_20 : Ref sig .tc := ⟨.hbm, 104, rfl⟩
abbrev main_while0b_c_21 : Ref sig .tc := ⟨.hbm, 105, rfl⟩
abbrev main_while0b_v61 : Ref sig .tc := ⟨.hbm, 106, rfl⟩
abbrev main_while0b_c_22 : Ref sig .tc := ⟨.hbm, 107, rfl⟩
abbrev main_while0b_c_23 : Ref sig .tc := ⟨.hbm, 108, rfl⟩
abbrev main_while0b_v62 : Ref sig .tc := ⟨.hbm, 109, rfl⟩
abbrev main_while0b_c_24 : Ref sig .tc := ⟨.hbm, 110, rfl⟩
abbrev main_while0b_v63 : Ref sig .tc := ⟨.hbm, 111, rfl⟩
abbrev main_while0b_v64 : Ref sig .tc := ⟨.hbm, 112, rfl⟩
abbrev main_while0b_v65 : Ref sig .tc := ⟨.hbm, 113, rfl⟩
abbrev main_while0b_v66 : Ref sig .tc := ⟨.hbm, 114, rfl⟩
abbrev main_while0b_v67 : Ref sig .tc := ⟨.hbm, 115, rfl⟩
abbrev main_while0b_c_25 : Ref sig .tc := ⟨.hbm, 116, rfl⟩
abbrev main_while0b_c_26 : Ref sig .tc := ⟨.hbm, 117, rfl⟩
abbrev main_while0b_v68 : Ref sig .tc := ⟨.hbm, 118, rfl⟩
abbrev main_while0b_c_27 : Ref sig .tc := ⟨.hbm, 119, rfl⟩
abbrev main_while0b_c_28 : Ref sig .tc := ⟨.hbm, 120, rfl⟩
abbrev main_while0b_v69 : Ref sig .tc := ⟨.hbm, 121, rfl⟩
abbrev main_while0b_c_29 : Ref sig .tc := ⟨.hbm, 122, rfl⟩
abbrev main_while0b_v70 : Ref sig .tc := ⟨.hbm, 123, rfl⟩
abbrev main_while0b_c_30 : Ref sig .tc := ⟨.hbm, 124, rfl⟩
abbrev main_while0b_v71 : Ref sig .tc := ⟨.hbm, 125, rfl⟩
abbrev main_while0b_c_31 : Ref sig .tc := ⟨.hbm, 126, rfl⟩
abbrev main_while0b_v72 : Ref sig .tc := ⟨.hbm, 127, rfl⟩
abbrev main_while0b_v73 : Ref sig .tc := ⟨.hbm, 128, rfl⟩
abbrev main_while0b_c_32 : Ref sig .tc := ⟨.hbm, 129, rfl⟩
abbrev main_while0b_c_33 : Ref sig .tc := ⟨.hbm, 130, rfl⟩
abbrev main_while0b_v74 : Ref sig .tc := ⟨.hbm, 131, rfl⟩
abbrev main_while0b_c_34 : Ref sig .tc := ⟨.hbm, 132, rfl⟩
abbrev main_while0b_c_35 : Ref sig .tc := ⟨.hbm, 133, rfl⟩
abbrev main_while0b_v75 : Ref sig .tc := ⟨.hbm, 134, rfl⟩
abbrev main_while0b_c_36 : Ref sig .tc := ⟨.hbm, 135, rfl⟩
abbrev main_while0b_v76 : Ref sig .tc := ⟨.hbm, 136, rfl⟩
abbrev main_while0b_v77 : Ref sig .tc := ⟨.hbm, 137, rfl⟩
abbrev main_while0b_v78 : Ref sig .tc := ⟨.hbm, 138, rfl⟩
abbrev main_while0b_v79 : Ref sig .tc := ⟨.hbm, 139, rfl⟩
abbrev main_while0b_v80 : Ref sig .tc := ⟨.hbm, 140, rfl⟩
abbrev main_while0b_c_37 : Ref sig .tc := ⟨.hbm, 141, rfl⟩
abbrev main_while0b_v81 : Ref sig .tc := ⟨.hbm, 142, rfl⟩
abbrev main_while0b_v82 : Ref sig .tc := ⟨.hbm, 143, rfl⟩
abbrev main_while0b_c_38 : Ref sig .tc := ⟨.hbm, 144, rfl⟩
abbrev main_while0b_v83 : Ref sig .tc := ⟨.hbm, 145, rfl⟩
abbrev main_while0b_v84 : Ref sig .tc := ⟨.hbm, 146, rfl⟩
abbrev main_while0b_c_39 : Ref sig .tc := ⟨.hbm, 147, rfl⟩
abbrev main_while0b_c_40 : Ref sig .tc := ⟨.hbm, 148, rfl⟩
abbrev main_while0b_v85 : Ref sig .tc := ⟨.hbm, 149, rfl⟩
abbrev main_while0b_c_41 : Ref sig .tc := ⟨.hbm, 150, rfl⟩
abbrev main_while0b_v86 : Ref sig .tc := ⟨.hbm, 151, rfl⟩
abbrev main_v52 : Ref sig .tc := ⟨.hbm, 152, rfl⟩

abbrev nD : Nat := 1
abbrev τ : Topo := Topo.v7x

variable {F : FTy → Type} [FloatOps F]

abbrev main_while0_count : Scf.Loop 32 := ⟨0#32, 4096#32, 1#32⟩
-- ==== Kernel3.lean ====
abbrev S8x4096x1024 : Shape := ⟨3, ![8, 4096, 1024]⟩
abbrev S1024x5632 : Shape := ⟨2, ![1024, 5632]⟩
abbrev S2816x1024 : Shape := ⟨2, ![2816, 1024]⟩
abbrev S8x1x1024 : Shape := ⟨3, ![8, 1, 1024]⟩
abbrev S1024 : Shape := ⟨1, ![1024]⟩
abbrev S1x1024 : Shape := ⟨2, ![1, 1024]⟩
abbrev S1x512x1024 : Shape := ⟨3, ![1, 512, 1024]⟩
abbrev S1024x2816 : Shape := ⟨2, ![1024, 2816]⟩
abbrev S1x1x1024 : Shape := ⟨3, ![1, 1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x5632, .f32⟩
  | .hbm, ⟨3, _⟩ => ⟨S2816x1024, .f32⟩
  | .hbm, ⟨4, _⟩ => ⟨S8x1x1024, .f32⟩
  | .hbm, ⟨5, _⟩ => ⟨S1024, .f32⟩
  | .hbm, ⟨6, _⟩ => ⟨S8x4096x1024, .bf16⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S1024x5632 : Shape := ⟨2, ![1024, 5632]⟩
abbrev S2816x1024 : Shape := ⟨2, ![2816, 1024]⟩
abbrev S8x1x1024 : Shape := ⟨3, ![8, 1, 1024]⟩
abbrev S1024 : Shape := ⟨1, ![1024]⟩
abbrev S8x4096x5632 : Shape := ⟨3, ![8, 4096, 5632]⟩
abbrev S8x4096x2816 : Shape := ⟨3, ![8, 4096, 2816]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x5632, .f32⟩
  | .hbm, ⟨3, _⟩ => ⟨S2816x1024, .f32⟩
  | .hbm, ⟨4, _⟩ => ⟨S8x1x1024, .f32⟩
  | .hbm, ⟨5, _⟩ => ⟨S1024, .f32⟩
  | .hbm, ⟨6, _⟩ => ⟨S8x4096x5632, .f32⟩
  | .hbm, ⟨7, _⟩ => ⟨S8x4096x2816, .f32⟩
  | .hbm, ⟨8, _⟩ => ⟨S8x4096x2816, .f32⟩
  | .hbm, ⟨9, _⟩ => ⟨S8x4096x2816, .f32⟩
  | .hbm, ⟨10, _⟩ => ⟨S8x4096x2816, .f32⟩
  | .hbm, ⟨11, _⟩ => ⟨S_, .f32⟩
  | .hbm, ⟨12, _⟩ => ⟨S8x4096x2816, .f32⟩
  | .hbm, ⟨13, _⟩ => ⟨S8x4096x2816, .f32⟩
  | .hbm, ⟨14, _⟩ => ⟨S_, .f32⟩
  | .hbm, ⟨15, _⟩ => ⟨S8x4096x2816, .f32⟩
  | .hbm, ⟨16, _⟩ => ⟨S8x4096x2816, .f32⟩
  | .hbm, ⟨17, _⟩ => ⟨S8x4096x2816, .f32⟩
  | .hbm, ⟨18, _⟩ => ⟨S8x4096x2816, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096x1, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S8x4096x1, .f32⟩
  | .hbm, ⟨34, _⟩ => ⟨S8x4096x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024x7168 : Shape := ⟨2, ![1024, 7168]⟩
abbrev S7168 : Shape := ⟨1, ![7168]⟩
abbrev S1024x1024 : Shape := ⟨2, ![1024, 1024]⟩
abbrev S8x1x1024 : Shape := ⟨3, ![8, 1, 1024]⟩
abbrev S1024 : Shape := ⟨1, ![1024]⟩
abbrev S1024x2048 : Shape := ⟨2, ![1024, 2048]⟩
abbrev S2048 : Shape := ⟨1, ![2048]⟩
abbrev S1x7168 : Shape := ⟨2, ![1, 7168]⟩
abbrev S1x2048 : Shape := ⟨2, ![1, 2048]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1 : Shape := ⟨2, ![1024, 1]⟩

abbrev nBuf : Space → Nat
  | .hbm => 27
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S1024x7168, .f32⟩
  | .hbm, ⟨5, _⟩ => ⟨S7168, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S8x1x1024, .f32⟩
  | .hbm, ⟨10, _⟩ => ⟨S1024, .f32⟩
  | .hbm, ⟨11, _⟩ => ⟨S8x1x1024, .f32⟩
  | .hbm, ⟨12, _⟩ => ⟨S8x1x1024, .f32⟩
  | .hbm, ⟨13, _⟩ => ⟨S1024x7168, .bf16⟩
  | .hbm, ⟨14, _⟩ => ⟨S1024x2048, .bf16⟩
  | .hbm, ⟨15, _⟩ => ⟨S2048, .f32⟩
  | .hbm, ⟨16, _⟩ => ⟨S8x4096x1024, .bf16⟩
  | .hbm, ⟨17, _⟩ => ⟨S8x4096x1024, .bf16⟩
  | .hbm, ⟨18, _⟩ => ⟨S8x4096x1024, .bf16⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1x7168, .f32⟩
  | .hbm, ⟨23, _⟩ => ⟨S1x2048, .f32⟩
  | .hbm, ⟨24, _⟩ => ⟨S1x1024, .f32⟩
  | .hbm, ⟨25, _⟩ => ⟨S8x4096x1024, .f32⟩
  | .hbm, ⟨26, _⟩ => ⟨S8x4096x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .bf16⟩
  | .local _ .vmem, ⟨9, _⟩ => ⟨S1x1024, .f32⟩
  | .local _ .vmem, ⟨10, _⟩ => ⟨S1024x2048, .bf16⟩
  | .local _ .vmem, ⟨11, _⟩ => ⟨S1x2048, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1024x1024, .bf16⟩
  | .local _ .vmem, ⟨25, _⟩ => ⟨S1x1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S8x4096x1024 : Shape := ⟨3, ![8, 4096, 1024]⟩
abbrev S1024x7168 : Shape := ⟨2, ![1024, 7168]⟩
abbrev S7168 : Shape := ⟨1, ![7168]⟩
abbrev S1024x1024 : Shape := ⟨2, ![1024, 1024]⟩
abbrev S8x1x1024 : Shape := ⟨3, ![8, 1, 1024]⟩
abbrev S1024 : Shape := ⟨1, ![1024]⟩
abbrev S1024x6144 : Shape := ⟨2, ![1024, 6144]⟩
abbrev S8x4096x6144 : Shape := ⟨3, ![8, 4096, 6144]⟩
abbrev S6144 : Shape := ⟨1, ![6144]⟩
abbrev S1x1x6144 : Shape := ⟨3, ![1, 1, 6144]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S1024x7168, .f32⟩
  | .hbm, ⟨5, _⟩ => ⟨S7168, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S8x1x1024, .f32⟩
  | .hbm, ⟨10, _⟩ => ⟨S1024, .f32⟩
  | .hbm, ⟨11, _⟩ => ⟨S8x1x1024, .f32⟩
  | .hbm, ⟨12, _⟩ => ⟨S8x1x1024, .f32⟩
  | .hbm, ⟨13, _⟩ => ⟨S1024x6144, .f32⟩
  | .hbm, ⟨14, _⟩ => ⟨S8x4096x6144, .f32⟩
  | .hbm, ⟨15, _⟩ => ⟨S6144, .f32⟩
  | .hbm, ⟨16, _⟩ => ⟨S1x1x6144, .f32⟩
  | .hbm, ⟨17, _⟩ => ⟨S8x4096x6144, .f32⟩
  | .hbm, ⟨18, _⟩ => ⟨S8x4096x6144, .f32⟩
  | .hbm, ⟨19, _⟩ => ⟨S8x4096x1024, .f32⟩
  | .hbm, ⟨20, _⟩ => ⟨S8x4096x2048, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x2048, .f32⟩
  | .hbm, ⟨40, _⟩ => ⟨S8x4096x2048, .f32⟩
  | .hbm, ⟨41, _⟩ => ⟨S_, .f32⟩
  | .hbm, ⟨42, _⟩ => ⟨S8x4096x2048, .f32⟩
  | .hbm, ⟨43, _⟩ => ⟨S8x4096x2048, .f32⟩
  | .hbm, ⟨44, _⟩ => ⟨S_, .f32⟩
  | .hbm, ⟨45, _⟩ => ⟨S8x4096x2048, .f32⟩
  | .hbm, ⟨46, _⟩ => ⟨S8x4096x2048, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S1x1x1024, .f32⟩
  | .hbm, ⟨72, _⟩ => ⟨S8x4096x1024, .f32⟩
  | .hbm, ⟨73, _⟩ => ⟨S8x4096x1024, .f32⟩
  | .hbm, ⟨74, _⟩ => ⟨S_, .f32⟩
  | .hbm, ⟨75, _⟩ => ⟨S8x1x1024, .f32⟩
  | .hbm, ⟨76, _⟩ => ⟨S8x1x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Proof.Scalar.lean ====
/-
  Hand-written. Facts about single extended reals: the literals of the programs, the logistic function through the
  hyperbolic tangent, and products of a sum with a nonnegative real.
-/
module

public import Idealize.ShloMosaic.PureOps.Ideal
public import Idealize.ShloMosaic.Lib.Pointwise

@[expose] public section

noncomputable section

namespace Cert.Proof.Scalar

open Idealize.ShloMosaic

/-- The word of 0.5 is one half. -/
theorem lit_half : Ideal.ofBits .f32 0x3F000000#32 = ((1 / 2 : ℝ) : EReal) := by
  simp [Ideal.ofBits, Ideal.ieee, -EReal.coe_mul]; norm_num

/-- The word of 2.0 is two. -/
theorem lit_two : Ideal.ofBits .f32 0x40000000#32 = ((2 : ℝ) : EReal) := by
  simp [Ideal.ofBits, Ideal.ieee, -EReal.coe_mul]; norm_num

/-- The word of −4.0 is minus four. -/
theorem lit_neg_four : Ideal.ofBits .f32 0xC0800000#32 = ((-4 : ℝ) : EReal) := by
  simp [Ideal.ofBits, Ideal.ieee, -EReal.coe_mul]; norm_num

/-- The word of −8.0 is minus eight. -/
theorem lit_neg_eight : Ideal.ofBits .f32 0xC1000000#32 = ((-8 : ℝ) : EReal) := by
  simp [Ideal.ofBits, Ideal.ieee, -EReal.coe_mul]; norm_num

/-- For real numbers: the logistic function is half of one plus the hyperbolic tangent of the half. -/
theorem real_logistic (z : ℝ) : (1 + Real.exp (-z))⁻¹ = 1 / 2 * Real.tanh (1 / 2 * z) + 1 / 2 := by
  have h1 : Real.exp (-z) = Real.exp (-(1 / 2 * z)) * Real.exp (-(1 / 2 * z)) := by
    rw [← Real.exp_add]; congr 1; ring
  have h2 : Real.exp (1 / 2 * z) * Real.exp (-(1 / 2 * z)) = 1 := by
    rw [← Real.exp_add]; simp
  have hp := Real.exp_pos (1 / 2 * z)
  have hq := Real.exp_pos (-(1 / 2 * z))
  rw [Real.tanh_eq_sinh_div_cosh, Real.sinh_eq, Real.cosh_eq, h1]
  generalize Real.exp (1 / 2 * z) = p at *
  generalize Real.exp (-(1 / 2 * z)) = q at *
  field_simp
  nlinarith

/-- The logistic function as `½·tanh(½·z) + ½`, at every extended real. -/
theorem logistic_eq_tanh (z : EReal) :
    ((1 / 2 : ℝ) : EReal) * Ideal.tanh (((1 / 2 : ℝ) : EReal) * z) + ((1 / 2 : ℝ) : EReal) = Ideal.logistic z := by
  induction z using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | coe r =>
    rw [← EReal.coe_mul, Ideal.tanh_coe, ← EReal.coe_mul, ← EReal.coe_add, Ideal.logistic_coe, real_logistic]
  | top =>
    rw [EReal.coe_mul_top_of_pos (by norm_num), Ideal.tanh_top, Ideal.logistic_top]
    rw [show (1 : EReal) = ((1 : ℝ) : EReal) by simp, ← EReal.coe_mul, ← EReal.coe_add]
    norm_num

/-- The logistic function spelt as a quotient. -/
theorem div_one_add_exp (z : EReal) : Ideal.div 1 (1 + Ideal.exp (-z)) = Ideal.logistic z := rfl

/-- A nonnegative real distributes over a sum of extended reals. -/
theorem mul_add_of_nonneg (r : ℝ) (hr : 0 ≤ r) (x y : EReal) : (r : EReal) * (x + y) = r * x + r * y :=
  EReal.left_distrib_of_nonneg_of_ne_top (by exact_mod_cast hr) (EReal.coe_ne_top r) x y

/-- A nonnegative real distributes over a finite sum of extended reals. -/
theorem mul_sum_of_nonneg {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, mul_add_of_nonneg r hr, ih]

end Cert.Proof.Scalar

end
-- ==== Proof.Ffn.Math.lean ====
/-
  Hand-written. The feed-forward part's mathematics: one output row as a function of the row's inputs and the weights,
  what the kernel's block computes, and what the reference's composed term computes.
-/
module

public import proofs.«01_k».proof.Proof.Gen.Kernel3Ideal.Value
public import proofs.«01_k».proof.Proof.Gen.Reference3Ideal.Run
public import proofs.«01_k».proof.Proof.Scalar
public import Idealize.ShloMosaic.Lib.Pointwise
public import Idealize.ShloMosaic.Lib.Tactic.CleanTypes

@[expose] public section

noncomputable section

namespace Cert.Proof.Ffn

open Idealize.ShloMosaic Idealize.ShloMosaic.Pointwise Idealize.SL.Sem

/-- The residual stream after the feed-forward part, at one row: `x₁ + g₂ · ((silu(h·w_g) · (h·w_u))·w_o)`. -/
def resid (h x1 : Fin 1024 → EReal) (wg wu : Fin 1024 → Fin 2816 → EReal) (wo : Fin 2816 → Fin 1024 → EReal)
    (g2 : Fin 1024 → EReal) (c : Fin 1024) : EReal :=
  x1 c + g2 c * ∑ j : Fin 2816, (∑ k, h k * wg k j) * Ideal.logistic (∑ k, h k * wg k j) * (∑ k, h k * wu k j) * wo j c

/-- A row divided by its root mean square and scaled. -/
def normed (x g : Fin 1024 → EReal) (c : Fin 1024) : EReal :=
  x c * Ideal.rsqrt (Ideal.div (∑ k, x k * x k) (Ideal.ofBits .f32 0x44800000#32) + Ideal.ofBits .f32 0x358637BD#32) * g c

set_option maxRecDepth 16384 in
/-- The kernel's residual block at row `r` and column `c`. -/
theorem pay2_apply (P0 : Vec Ideal Kernel3Ideal.S1x512x1024 .bf16) (P1 P2 : Vec Ideal Kernel3Ideal.S1024x2816 .bf16)
    (P3 : Vec Ideal Kernel3Ideal.S1x512x1024 .f32) (P4 : Vec Ideal Kernel3Ideal.S1x1x1024 .f32)
    (P5 : Vec Ideal Kernel3Ideal.S2816x1024 .bf16) (r : Fin 512) (c : Fin 1024) :
    Kernel3Ideal.Gen.k0_pay2 (F := Ideal) P0 P1 P2 P3 P4 P5 (ix2 r c)
      = resid (fun k => P0 (ix3 0 r k)) (fun k => P3 (ix3 0 r k)) (fun k j => P1 (ix2 k j)) (fun k j => P2 (ix2 k j))
          (fun j k => P5 (ix2 j k)) (fun k => P4 (ix3 0 0 k)) c := by
  pointwise [Kernel3Ideal.Gen.k0_pay2, resid, ← Scalar.logistic_eq_tanh, Scalar.lit_half]

set_option maxRecDepth 16384 in
/-- The kernel's output block at row `r` and column `c`. -/
theorem E7_apply (P0 : Vec Ideal Kernel3Ideal.S1x512x1024 .bf16) (P1 P2 : Vec Ideal Kernel3Ideal.S1024x2816 .bf16)
    (P3 : Vec Ideal Kernel3Ideal.S1x512x1024 .f32) (P4 : Vec Ideal Kernel3Ideal.S1x1x1024 .f32)
    (P5 : Vec Ideal Kernel3Ideal.S2816x1024 .bf16) (P6 : Vec Ideal Kernel3Ideal.S1x1024 .f32) (r : Fin 512) (c : Fin 1024) :
    Kernel3Ideal.Value.E7 (F := Ideal) P0 P1 P2 P3 P4 P5 P6 (ix3 0 r c)
      = normed (resid (fun k => P0 (ix3 0 r k)) (fun k => P3 (ix3 0 r k)) (fun k j => P1 (ix2 k j)) (fun k j => P2 (ix2 k j))
          (fun j k => P5 (ix2 j k)) (fun k => P4 (ix3 0 0 k))) (fun k => P6 (ix2 0 k)) c := by
  have e0 : Kernel3Ideal.Value.ix7_0 (ix3 0 r c) = ix2 r c := funext fun a => by fin_cases a <;> rfl
  have e1 : Kernel3Ideal.Value.ix7_1 (ix3 0 r c) = ix1 r := funext fun a => by fin_cases a <;> rfl
  have e3 : Kernel3Ideal.Value.ix7_3 (ix3 0 r c) = ix2 0 c := funext fun a => by fin_cases a <;> rfl
  unfold Kernel3Ideal.Value.E7
  rw [e0, e1, e3]
  pointwise [pay2_apply, Kernel3Ideal.Gen.k0_pay4, normed]

set_option maxRecDepth 16384 in
/-- The reference's composed term at batch `b`, position `t` and column `c`. -/
theorem ref_apply (m : (ℓ : Loc Reference3Ideal.nD Reference3Ideal.τ Reference3Ideal.sig) → Buf (Elt Ideal) ℓ)
    (d : Dev Reference3Ideal.nD)
    (h x1 : FVec Ideal Reference3Ideal.S8x4096x1024 .f32) (wi : FVec Ideal Reference3Ideal.S1024x5632 .f32)
    (wo : FVec Ideal Reference3Ideal.S2816x1024 .f32) (g2 : FVec Ideal Reference3Ideal.S8x1x1024 .f32)
    (fg : FVec Ideal Reference3Ideal.S1024 .f32)
    (h0 : m ((d.tc : Thread Reference3Ideal.nD Reference3Ideal.τ).loc Reference3Ideal.main_arg0) = h)
    (h1 : m ((d.tc : Thread Reference3Ideal.nD Reference3Ideal.τ).loc Reference3Ideal.main_arg1) = x1)
    (h2 : m ((d.tc : Thread Reference3Ideal.nD Reference3Ideal.τ).loc Reference3Ideal.main_arg2) = wi)
    (h3 : m ((d.tc : Thread Reference3Ideal.nD Reference3Ideal.τ).loc Reference3Ideal.main_arg3) = wo)
    (h4 : m ((d.tc : Thread Reference3Ideal.nD Reference3Ideal.τ).loc Reference3Ideal.main_arg4) = g2)
    (h5 : m ((d.tc : Thread Reference3Ideal.nD Reference3Ideal.τ).loc Reference3Ideal.main_arg5) = fg)
    (b : Fin 8) (t : Fin 4096) (c : Fin 1024) :
    Reference3Ideal.Value.res_out0 (F := Ideal) m d (ix3 b t c)
      = normed (resid (fun k => h (ix3 b t k)) (fun k => x1 (ix3 b t k)) (fun k j => wi (ix2 k ⟨j.val, by omega⟩))
          (fun k j => wi (ix2 k ⟨2816 + j.val, by omega⟩)) (fun j k => wo (ix2 j k)) (fun k => g2 (ix3 b 0 k)))
          (fun k => fg (ix1 k)) c := by
  unfold Reference3Ideal.Value.res_out0 Reference3Ideal.Value.res_main_v21
  rw [h0, h1, h2, h3, h4, h5]
  clean_types
  pointwise [normed, resid, Scalar.div_one_add_exp]

end Cert.Proof.Ffn

end
-- ==== Proof.Ffn.Final.lean ====
/-
  Hand-written. The feed-forward kernel's result array after its run: every grid point writes one block of one
  whole-array function of the arguments, and the 64 blocks fill the array.
-/
module

public import proofs.«01_k».proof.Defs
public import proofs.«01_k».proof.Proof.Ffn.Math
public import Idealize.ShloMosaic.Lib.Pipeline.Value

@[expose] public section

noncomputable section

namespace Cert.Proof.Ffn

open Idealize.ShloMosaic Idealize.ShloMosaic.Pointwise Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (ρ : Dev nD → PrngReg)

/-- The layer's feed-forward part followed by the final norm, at every batch, position and column. -/
def out (h x1 : FVec Ideal S8x4096x1024 .f32) (wi : FVec Ideal S1024x5632 .f32) (wo : FVec Ideal S2816x1024 .f32)
    (g2 : FVec Ideal S8x1x1024 .f32) (fg : FVec Ideal S1024 .f32) (b : Fin 8) (t : Fin 4096) (c : Fin 1024) : EReal :=
  normed (resid (fun k => h (ix3 b t k)) (fun k => x1 (ix3 b t k)) (fun k j => wi (ix2 k ⟨j.val, by omega⟩))
    (fun k j => wi (ix2 k ⟨2816 + j.val, by omega⟩)) (fun j k => wo (ix2 j k)) (fun k => g2 (ix3 b 0 k)))
    (fun k => fg (ix1 k)) c

/-- The result array as that function of device `d`'s arguments. -/
def G (d : Dev nD) : Buf (Elt Ideal) ((d : Thread nD τ).loc main_v4) := fun i =>
  out (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (i 0) (i 1) (i 2)

/-! ## What the host prepared -/

theorem V_main_v0 (d : Dev nD) : V m d main_v0 = m ((d : Thread nD τ).loc main_arg0) := by
  show StableHlo.after hostOps0 (fun b => m (d, b)) main_v0 = _
  after_results <;> rfl

theorem V_main_v1 (d : Dev nD) : V m d main_v1 = m ((d : Thread nD τ).loc main_arg2) := by
  show StableHlo.after hostOps0 (fun b => m (d, b)) main_v1 = _
  after_results <;> rfl

theorem V_main_v2 (d : Dev nD) : V m d main_v2 = m ((d : Thread nD τ).loc main_arg3) := by
  show StableHlo.after hostOps0 (fun b => m (d, b)) main_v2 = _
  after_results <;> rfl

theorem V_main_v3 (d : Dev nD) (k : Fin 1024) : V m d main_v3 (ix2 0 k) = m ((d : Thread nD τ).loc main_arg5) (ix1 k) := by
  have e : V m d main_v3 = shapeCast S1x1024 (m ((d : Thread nD τ).loc main_arg5)) shapeCasts_S1024_S1x1024 := by
    show StableHlo.after hostOps0 (fun b => m (d, b)) main_v3 = _
    after_results <;> rfl
  rw [e]
  clean_types
  pointwise

/-! ## The windows' blocks -/

/-- The grid is 8 batches by 8 row blocks: where each window's block lies at a point. -/
theorem idx_facts : ∀ t : Fin cfg0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = 0 ∧ win0_2.index t 1 = 0) ∧ (win0_3.index t 0 = 0 ∧ win0_3.index t 1 = 1)
    ∧ (win0_4.index t 0 = 0 ∧ win0_4.index t 1 = 0)
    ∧ (win0_5.index t 0 = t.val / 8 ∧ win0_5.index t 1 = 0 ∧ win0_5.index t 2 = 0)
    ∧ (win0_6.index t 0 = 0 ∧ win0_6.index t 1 = 0)
    ∧ (win0_7.index t 0 = t.val / 8 ∧ win0_7.index t 1 = t.val % 8 ∧ win0_7.index t 2 = 0) :=
  (by decide +kernel : ∀ t : Fin grid0.N, _)

theorem t_lt (t : Fin cfg0.N) : t.val < 64 := lt_of_lt_of_eq t.isLt N_0

/-- Point `t`'s batch, and the position of its block's row `r`. -/
def bat (t : Fin cfg0.N) : Fin 8 := ⟨t.val / 8, by have := t_lt t; omega⟩
def pos (t : Fin cfg0.N) (r : Fin 512) : Fin 4096 := ⟨t.val % 8 * 512 + r.val, by omega⟩

theorem iblk0 (d : Dev nD) (t : Fin cfg0.N) (r : Fin 512) (k : Fin 1024) :
    iblk m d 0 t (ix3 0 r k) = m ((d : Thread nD τ).loc main_arg0) (ix3 (bat t) (pos t r) k) := by
  obtain ⟨e0, e1, e2⟩ := (idx_facts t).1
  rw [← V_main_v0 m d]
  refine congrArg (V m d main_v0) (funext fun a => Fin.ext ?_)
  match a with
  | ⟨0, _⟩ => show win0_0.index t 0 * 1 + 1 * 0 = t.val / 8; omega
  | ⟨1, _⟩ => show win0_0.index t 1 * 512 + 1 * r.val = t.val % 8 * 512 + r.val; omega
  | ⟨2, _⟩ => show win0_0.index t 2 * 1024 + 1 * k.val = k.val; omega

theorem iblk1 (d : Dev nD) (t : Fin cfg0.N) (r : Fin 512) (k : Fin 1024) :
    iblk m d 1 t (ix3 0 r k) = m ((d : Thread nD τ).loc main_arg1) (ix3 (bat t) (pos t r) k) := by
  obtain ⟨e0, e1, e2⟩ := (idx_facts t).2.1
  rw [← V_main_arg1 m d]
  refine congrArg (V m d main_arg1) (funext fun a => Fin.ext ?_)
  match a with
  | ⟨0, _⟩ => show win0_1.index t 0 * 1 + 1 * 0 = t.val / 8; omega
  | ⟨1, _⟩ => show win0_1.index t 1 * 512 + 1 * r.val = t.val % 8 * 512 + r.val; omega
  | ⟨2, _⟩ => show win0_1.index t 2 * 1024 + 1 * k.val = k.val; omega

theorem iblk2 (d : Dev nD) (t : Fin cfg0.N) (k : Fin 1024) (j : Fin 2816) :
    iblk m d 2 t (ix2 k j) = m ((d : Thread nD τ).loc main_arg2) (ix2 k ⟨j.val, by omega⟩) := by
  obtain ⟨e0, e1⟩ := (idx_facts t).2.2.1
  rw [← V_main_v1 m d]
  refine congrArg (V m d main_v1) (funext fun a => Fin.ext ?_)
  match a with
  | ⟨0, _⟩ => show win0_2.index t 0 * 1024 + 1 * k.val = k.val; omega
  | ⟨1, _⟩ => show win0_2.index t 1 * 2816 + 1 * j.val = j.val; omega

theorem iblk3 (d : Dev nD) (t : Fin cfg0.N) (k : Fin 1024) (j : Fin 2816) :
    iblk m d 3 t (ix2 k j) = m ((d : Thread nD τ).loc main_arg2) (ix2 k ⟨2816 + j.val, by omega⟩) := by
  obtain ⟨e0, e1⟩ := (idx_facts t).2.2.2.1
  rw [← V_main_v1 m d]
  refine congrArg (V m d main_v1) (funext fun a => Fin.ext ?_)
  match a with
  | ⟨0, _⟩ => show win0_3.index t 0 * 1024 + 1 * k.val = k.val; omega
  | ⟨1, _⟩ => show win0_3.index t 1 * 2816 + 1 * j.val = 2816 + j.val; omega

theorem iblk4 (d : Dev nD) (t : Fin cfg0.N) (j : Fin 2816) (k : Fin 1024) :
    iblk m d 4 t (ix2 j k) = m ((d : Thread nD τ).loc main_arg3) (ix2 j k) := by
  obtain ⟨e0, e1⟩ := (idx_facts t).2.2.2.2.1
  rw [← V_main_v2 m d]
  refine congrArg (V m d main_v2) (funext fun a => Fin.ext ?_)
  match a with
  | ⟨0, _⟩ => show win0_4.index t 0 * 2816 + 1 * j.val = j.val; omega
  | ⟨1, _⟩ => show win0_4.index t 1 * 1024 + 1 * k.val = k.val; omega

theorem iblk5 (d : Dev nD) (t : Fin cfg0.N) (k : Fin 1024) :
    iblk m d 5 t (ix3 0 0 k) = m ((d : Thread nD τ).loc main_arg4) (ix3 (bat t) 0 k) := by
  obtain ⟨e0, e1, e2⟩ := (idx_facts t).2.2.2.2.2.1
  rw [← V_main_arg4 m d]
  refine congrArg (V m d main_arg4) (funext fun a => Fin.ext ?_)
  match a with
  | ⟨0, _⟩ => show win0_5.index t 0 * 1 + 1 * 0 = t.val / 8; omega
  | ⟨1, _⟩ => show win0_5.index t 1 * 1 + 1 * 0 = 0; omega
  | ⟨2, _⟩ => show win0_5.index t 2 * 1024 + 1 * k.val = k.val; omega

theorem iblk6 (d : Dev nD) (t : Fin cfg0.N) (k : Fin 1024) :
    iblk m d 6 t (ix2 0 k) = m ((d : Thread nD τ).loc main_arg5) (ix1 k) := by
  obtain ⟨e0, e1⟩ := (idx_facts t).2.2.2.2.2.2.1
  rw [← V_main_v3 m d]
  refine congrArg (V m d main_v3) (funext fun a => Fin.ext ?_)
  match a with
  | ⟨0, _⟩ => show win0_6.index t 0 * 1 + 1 * 0 = 0; omega
  | ⟨1, _⟩ => show win0_6.index t 1 * 1024 + 1 * k.val = k.val; omega

/-! ## The result array -/

theorem z2 : (![0, 0] : Fin 2 → Nat) = fun _ => 0 := funext fun a => by fin_cases a <;> rfl
theorem z3 : (![0, 0, 0] : Fin 3 → Nat) = fun _ => 0 := funext fun a => by fin_cases a <;> rfl

/-- The body's output block, read at an index. -/
theorem out0_7_apply (x0 : Vec Ideal S1x512x1024 .bf16) (x1 : Vec Ideal S1x512x1024 .f32) (x2 x3 : Vec Ideal S1024x2816 .bf16)
    (x4 : Vec Ideal S2816x1024 .bf16) (x5 : Vec Ideal S1x1x1024 .f32) (x6 : Vec Ideal S1x1024 .f32) (r : Fin 512) (c : Fin 1024) :
    out0_7 x0 x1 x2 x3 x4 x5 x6 (ix3 0 r c)
      = normed (resid (fun k => x0 (ix3 0 r k)) (fun k => x1 (ix3 0 r k)) (fun k j => x2 (ix2 k j)) (fun k j => x3 (ix2 k j))
          (fun j k => x4 (ix2 j k)) (fun k => x5 (ix3 0 0 k))) (fun k => x6 (ix2 0 k)) c := by
  unfold out0_7
  rw [Value.canon7_eq, E7_apply]
  rw [View.ld_unit_zero z3, View.ld_unit_zero z3, View.ld_unit_zero z2, View.ld_unit_zero z2, View.ld_unit_zero z2,
    View.ld_unit_zero z3, View.ld_unit_zero z2]

/-- What point `t` writes back is its block of `G`. -/
theorem flushed_eq (d : Dev nD) (t : Fin cfg0.N) :
    (dats m 0 d).flushed 7 t = (win0_7.blk t).view.read (Elt Ideal) (G m d) := by
  obtain ⟨e0, e1, e2⟩ := (idx_facts t).2.2.2.2.2.2.2
  rw [Value.flushed7]
  refine funext fun (y : S1x512x1024.Idx) => ?_
  obtain ⟨r, c, rfl⟩ : ∃ (r : Fin 512) (c : Fin 1024), y = ix3 0 r c := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have hi : (win0_7.blk t).view.emb (ix3 0 r c) = ix3 (bat t) (pos t r) c := funext fun a => Fin.ext (by
    match a with
    | ⟨0, _⟩ => show win0_7.index t 0 * 1 + 1 * 0 = t.val / 8; omega
    | ⟨1, _⟩ => show win0_7.index t 1 * 512 + 1 * r.val = t.val % 8 * 512 + r.val; omega
    | ⟨2, _⟩ => show win0_7.index t 2 * 1024 + 1 * c.val = c.val; omega)
  show out0_7 _ _ _ _ _ _ _ (ix3 0 r c) = G m d ((win0_7.blk t).view.emb (ix3 0 r c))
  rw [hi, out0_7_apply]
  simp only [iblk0, iblk1, iblk2, iblk3, iblk4, iblk5, iblk6]
  rfl

/-- An index of the result array is in point `t`'s block. -/
theorem mem_blk (t : Fin cfg0.N) (i : S8x4096x1024.Idx) :
    i ∈ ((cfg0.win 7).blk t).view.set ↔ ∀ a, win0_7.index t a * S1x512x1024.size a ≤ (i a : Nat)
      ∧ (i a : Nat) < win0_7.index t a * S1x512x1024.size a + S1x512x1024.size a := by
  show i ∈ ((View.whole main_v4).slice (win0_7.rect t)).set ↔ _
  rw [View.set_slice_whole, Rect.mem_set_unit]

theorem cover (i : S8x4096x1024.Idx) :
    ∃ t : Fin cfg0.N, (cfg0.win 7).flush t = true ∧ i ∈ ((cfg0.win 7).blk t).view.set := by
  have h0 : (i 0 : Nat) < 8 := (i 0).isLt
  have h1 : (i 1 : Nat) < 4096 := (i 1).isLt
  have h2 : (i 2 : Nat) < 1024 := (i 2).isLt
  have hN : cfg0.N = 64 := N_0
  have ht : (i 0 : Nat) * 8 + (i 1 : Nat) / 512 < cfg0.N := by omega
  refine ⟨⟨(i 0 : Nat) * 8 + (i 1 : Nat) / 512, ht⟩, flush0_7 _, ?_⟩
  obtain ⟨e0, e1, e2⟩ := (idx_facts ⟨(i 0 : Nat) * 8 + (i 1 : Nat) / 512, ht⟩).2.2.2.2.2.2.2
  dsimp only at e0 e1
  rw [mem_blk]
  intro a
  match a with
  | ⟨0, _⟩ => show win0_7.index _ 0 * 1 ≤ (i 0 : Nat) ∧ (i 0 : Nat) < win0_7.index _ 0 * 1 + 1
              rw [e0]; omega
  | ⟨1, _⟩ => show win0_7.index _ 1 * 512 ≤ (i 1 : Nat) ∧ (i 1 : Nat) < win0_7.index _ 1 * 512 + 512
              rw [e1]; omega
  | ⟨2, _⟩ => show win0_7.index _ 2 * 1024 ≤ (i 2 : Nat) ∧ (i 2 : Nat) < win0_7.index _ 2 * 1024 + 1024
              rw [e2]; omega

/-- The result array after the run. -/
theorem final (d : Dev nD) : (dats m 0 d).arrAt 7 cfg0.N = G m d :=
  (dats m 0 d).arrAt_eq_of_cover 7 (G m d) (fun t _ => flushed_eq m d t) cover

/-- The reference's result is the same function of its arguments. -/
theorem ref_eq (m' : (ℓ : Loc Reference3Ideal.nD Reference3Ideal.τ Reference3Ideal.sig) → Buf (Elt Ideal) ℓ)
    (d : Dev nD)
    (h0 : m' ((d.tc : Thread Reference3Ideal.nD Reference3Ideal.τ).loc Reference3Ideal.main_arg0) = m ((d : Thread nD τ).loc main_arg0))
    (h1 : m' ((d.tc : Thread Reference3Ideal.nD Reference3Ideal.τ).loc Reference3Ideal.main_arg1) = m ((d : Thread nD τ).loc main_arg1))
    (h2 : m' ((d.tc : Thread Reference3Ideal.nD Reference3Ideal.τ).loc Reference3Ideal.main_arg2) = m ((d : Thread nD τ).loc main_arg2))
    (h3 : m' ((d.tc : Thread Reference3Ideal.nD Reference3Ideal.τ).loc Reference3Ideal.main_arg3) = m ((d : Thread nD τ).loc main_arg3))
    (h4 : m' ((d.tc : Thread Reference3Ideal.nD Reference3Ideal.τ).loc Reference3Ideal.main_arg4) = m ((d : Thread nD τ).loc main_arg4))
    (h5 : m' ((d.tc : Thread Reference3Ideal.nD Reference3Ideal.τ).loc Reference3Ideal.main_arg5) = m ((d : Thread nD τ).loc main_arg5)) :
    Reference3Ideal.Value.res_out0 (F := Ideal) m' d = G m d := by
  refine funext fun (i : S8x4096x1024.Idx) => ?_
  have hi : i = ix3 (i 0) (i 1) (i 2) := funext fun a => by
    match a with
    | ⟨0, _⟩ => rfl
    | ⟨1, _⟩ => rfl
    | ⟨2, _⟩ => rfl
  exact (congrArg _ hi).trans (ref_apply m' d _ _ _ _ _ _ h0 h1 h2 h3 h4 h5 (i 0) (i 1) (i 2))

/-- The feed-forward claim. -/
theorem algebraic : Cert.algebraic_Kernel3Ideal_Reference3Ideal := by
  intro m g m' g' _ hargs
  refine ⟨fun c => G m c, (θ_run _ _ _).mono (fun r h c => ?_) (Value.run_blocks m g),
    (θ_run _ _ _).mono (fun r h c => ?_) (Reference3Ideal.Value.run m' g')⟩
  · obtain ⟨h7, h⟩ := h c
    exact ⟨h7.trans (final m c), h⟩
  · obtain ⟨h7, h⟩ := h c
    obtain ⟨a0, a1, a2, a3, a4, a5⟩ := hargs c
    exact ⟨h7.trans (ref_eq m m' c a0 a1 a2 a3 a4 a5), h⟩

end Cert.Proof.Ffn

end
-- ==== Proof.Merge.Math.lean ====
/-
  Hand-written. The merge of the two mixers: one output row as a function of the row's inputs and the weights, what the
  kernel's blocks compute, and what the reference's composed terms compute.
-/
module

public import proofs.«01_k».proof.Proof.Gen.Kernel4Ideal.Value
public import proofs.«01_k».proof.Proof.Gen.Reference4Ideal.Run
public import proofs.«01_k».proof.Proof.Scalar
public import Idealize.ShloMosaic.Lib.Pointwise
public import Idealize.ShloMosaic.Lib.Tactic.CleanTypes

@[expose] public section

noncomputable section

namespace Cert.Proof.Merge

open Idealize.ShloMosaic Idealize.ShloMosaic.Pointwise Idealize.SL.Sem

/-- The smooth rectifier through the hyperbolic tangent: `x·(½·(1 + tanh(√(2/π)·(x + 0.044715·x³))))`. -/
def gelu (x : EReal) : EReal :=
  x * (((1 / 2 : ℝ) : EReal) * (1 + Ideal.tanh (Ideal.ofBits .f32 0x3F4C422A#32
    * (x + Ideal.ofBits .f32 0x3D372713#32 * (x * x * x)))))

/-- The residual stream after the merge, at one row: `x + g₁ · ((σ(a)·(y_rnn·w_a) + σ(b)·(y_hy·w_b))·w_o)`, with
    `a` and `b` the two gates' inputs and `y_rnn = h_sum·gelu(rg)`. -/
def resid (rg hs yh x a b g1 : Fin 1024 → EReal) (wa wb wo : Fin 1024 → Fin 1024 → EReal) (c : Fin 1024) : EReal :=
  x c + g1 c * ∑ j : Fin 1024, (Ideal.logistic (a j) * (∑ k, hs k * gelu (rg k) * wa k j)
    + Ideal.logistic (b j) * (∑ k, yh k * wb k j)) * wo j c

/-- A row divided by its root mean square, scaled, and modulated. -/
def modulated (x g sc sh : Fin 1024 → EReal) (c : Fin 1024) : EReal :=
  x c * Ideal.rsqrt (Ideal.div (∑ k, x k * x k) (Ideal.ofBits .f32 0x44800000#32) + Ideal.ofBits .f32 0x358637BD#32)
    * g c * (1 + sc c) + sh c

theorem cube (x : EReal) : x * (x * x) = x * x * x := (mul_assoc x x x).symm

section Kernel
open Cert.Kernel4Ideal Cert.Kernel4Ideal.Gen

/-- The kernel's two gates, side by side. -/
theorem pay2_apply (P0 : Vec Ideal S1x1024x1024 .bf16) (P1 : Vec Ideal S1024x2048 .bf16) (P2 : Vec Ideal S1x2048 .f32)
    (r : Fin 1024) (j : Fin 2048) :
    k0_pay2 (F := Ideal) P0 P1 P2 (ix2 r j)
      = Ideal.logistic (∑ k : Fin 1024, P0 (ix3 0 r k) * P1 (ix2 k j) + P2 (ix2 0 j)) := by
  pointwise [k0_pay2, ← Scalar.logistic_eq_tanh, Scalar.lit_half]

/-- The input of the smooth rectifier. -/
theorem pay4_apply (P0 : Vec Ideal S1x1024x1024 .bf16) (P4 : Vec Ideal S1024x1024 .bf16) (P5 : Vec Ideal S1x1024 .f32)
    (r : Fin 1024) (j : Fin 1024) :
    k0_pay4 (F := Ideal) P0 P4 P5 (ix2 r j) = ∑ k : Fin 1024, P0 (ix3 0 r k) * P4 (ix2 k j) + P5 (ix2 0 j) := by
  pointwise [k0_pay4]

variable (P0 : Vec Ideal S1x1024x1024 .bf16) (P1 : Vec Ideal S1024x2048 .bf16) (P2 : Vec Ideal S1x2048 .f32)
  (P3 : Vec Ideal S1x1024x1024 .bf16) (P4 : Vec Ideal S1024x1024 .bf16) (P5 : Vec Ideal S1x1024 .f32)
  (P6 : Vec Ideal S1024x1024 .bf16) (P7 : Vec Ideal S1x1024x1024 .bf16) (P8 : Vec Ideal S1024x1024 .bf16)
  (P9 : Vec Ideal S1x1024x1024 .f32) (P10 : Vec Ideal S1x1x1024 .f32) (P11 : Vec Ideal S1024x1024 .bf16)
  (P12 : Vec Ideal S1x1024 .f32) (P13 P14 : Vec Ideal S1x1x1024 .f32)

/-- The residual row the kernel computes from its blocks. -/
def rowK (r : Fin 1024) : Fin 1024 → EReal :=
  resid (fun j => ∑ k : Fin 1024, P0 (ix3 0 r k) * P4 (ix2 k j) + P5 (ix2 0 j)) (fun k => P3 (ix3 0 r k))
    (fun k => P7 (ix3 0 r k)) (fun k => P9 (ix3 0 r k))
    (fun j => ∑ k : Fin 1024, P0 (ix3 0 r k) * P1 (ix2 k ⟨j.val, by omega⟩) + P2 (ix2 0 ⟨j.val, by omega⟩))
    (fun j => ∑ k : Fin 1024, P0 (ix3 0 r k) * P1 (ix2 k ⟨1024 + j.val, by omega⟩) + P2 (ix2 0 ⟨1024 + j.val, by omega⟩))
    (fun k => P10 (ix3 0 0 k)) (fun k j => P6 (ix2 k j)) (fun k j => P8 (ix2 k j)) (fun k j => P11 (ix2 k j))

set_option maxRecDepth 16384 in
/-- The kernel's residual block at row `r` and column `c`. -/
theorem pay7_apply (r c : Fin 1024) :
    k0_pay7 (F := Ideal) (k0_pay2 P0 P1 P2) (extf .f32 (shapeCast S1024x1024 P3 shapeCasts_S1x1024x1024_S1024x1024) bitsLt_bf16_f32)
        (k0_pay4 P0 P4 P5) (addf (k0_pay4 P0 P4 P5) (mulf (broadcast S1024x1024 (Scalar.ofBits .f32 0x3D372713#32))
          (mulf (k0_pay4 P0 P4 P5) (mulf (k0_pay4 P0 P4 P5) (k0_pay4 P0 P4 P5))))) (k0_pay6 (F := Ideal)) P6 P7 P8 P9 P10 P11 (ix2 r c)
      = rowK P0 P1 P2 P3 P4 P5 P6 P7 P8 P9 P10 P11 r c := by
  pointwise [k0_pay7, k0_pay6, pay2_apply, pay4_apply, rowK, resid, gelu, cube, Scalar.lit_half]

/-- The kernel's first output block. -/
theorem E15_apply (r c : Fin 1024) :
    Value.E15 (F := Ideal) P0 P1 P2 P3 P4 P5 P6 P7 P8 P9 P10 P11 (ix3 0 r c)
      = rowK P0 P1 P2 P3 P4 P5 P6 P7 P8 P9 P10 P11 r c := by
  have e0 : Value.ix15_0 (ix3 0 r c) = ix2 r c := funext fun a => by fin_cases a <;> rfl
  unfold Value.E15
  rw [e0, pay7_apply]

set_option maxRecDepth 16384 in
/-- The kernel's second output block. -/
theorem E16_apply (r c : Fin 1024) :
    Value.E16 (F := Ideal) P0 P1 P2 P3 P4 P5 P6 P7 P8 P9 P10 P11 P12 P13 P14 (ix3 0 r c)
      = modulated (rowK P0 P1 P2 P3 P4 P5 P6 P7 P8 P9 P10 P11 r) (fun k => P12 (ix2 0 k)) (fun k => P13 (ix3 0 0 k))
          (fun k => P14 (ix3 0 0 k)) c := by
  have e0 : Value.ix16_0 (ix3 0 r c) = ix2 r c := funext fun a => by fin_cases a <;> rfl
  have e1 : Value.ix16_1 (ix3 0 r c) = ix1 r := funext fun a => by fin_cases a <;> rfl
  have e2 : Value.ix16_2 (ix3 0 r c) = ix2 0 c := funext fun a => by fin_cases a <;> rfl
  have e3 : Value.ix16_3 (ix3 0 r c) = ix3 0 0 c := funext fun a => by fin_cases a <;> rfl
  have e4 : Value.ix16_4 (ix3 0 r c) = ix3 0 0 c := funext fun a => by fin_cases a <;> rfl
  unfold Value.E16
  rw [e0, e1, e2, e3, e4]
  have hv := pay7_apply P0 P1 P2 P3 P4 P5 P6 P7 P8 P9 P10 P11 r
  generalize k0_pay7 (F := Ideal) _ _ _ _ _ _ _ _ _ _ _ = v at hv ⊢
  pointwise [hv, modulated]

end Kernel

section Reference
open Cert.Reference4Ideal Cert.Reference4Ideal.Gen

variable (hx hs yh x : FVec Ideal S8x4096x1024 .f32) (wi : FVec Ideal S1024x7168 .f32) (bi : FVec Ideal S7168 .f32)
  (wa wb wo : FVec Ideal S1024x1024 .f32) (g1 : FVec Ideal S8x1x1024 .f32) (ng : FVec Ideal S1024 .f32)
  (sh sc : FVec Ideal S8x1x1024 .f32)

/-- One column of the input projection at batch `b` and position `t`. -/
def proj (b : Fin 8) (t : Fin 4096) (n : ℕ) (hn : n < 7168) : EReal :=
  ∑ k : Fin 1024, hx (ix3 b t k) * wi (ix2 k ⟨n, hn⟩) + bi (ix1 ⟨n, hn⟩)

/-- The residual row at batch `b` and position `t`. -/
def row (b : Fin 8) (t : Fin 4096) : Fin 1024 → EReal :=
  resid (fun j => proj hx wi bi b t (1024 + j.val) (by omega)) (fun k => hs (ix3 b t k)) (fun k => yh (ix3 b t k))
    (fun k => x (ix3 b t k)) (fun j => proj hx wi bi b t (5120 + j.val) (by omega))
    (fun j => proj hx wi bi b t (6144 + j.val) (by omega)) (fun k => g1 (ix3 b 0 k))
    (fun k j => wa (ix2 k j)) (fun k j => wb (ix2 k j)) (fun k j => wo (ix2 k j))

/-- The row that the next part takes. -/
def next (b : Fin 8) (t : Fin 4096) : Fin 1024 → EReal :=
  modulated (row hx hs yh x wi bi wa wb wo g1 b t) (fun k => ng (ix1 k)) (fun k => sc (ix3 b 0 k)) (fun k => sh (ix3 b 0 k))

variable (m : (ℓ : Loc nD τ sig) → Buf (Elt Ideal) ℓ) (d : Dev nD)
  (h0 : m ((d.tc : Thread nD τ).loc main_arg0) = hx) (h1 : m ((d.tc : Thread nD τ).loc main_arg1) = hs)
  (h2 : m ((d.tc : Thread nD τ).loc main_arg2) = yh) (h3 : m ((d.tc : Thread nD τ).loc main_arg3) = x)
  (h4 : m ((d.tc : Thread nD τ).loc main_arg4) = wi) (h5 : m ((d.tc : Thread nD τ).loc main_arg5) = bi)
  (h6 : m ((d.tc : Thread nD τ).loc main_arg6) = wa) (h7 : m ((d.tc : Thread nD τ).loc main_arg7) = wb)
  (h8 : m ((d.tc : Thread nD τ).loc main_arg8) = wo) (h9 : m ((d.tc : Thread nD τ).loc main_arg9) = g1)
  (h10 : m ((d.tc : Thread nD τ).loc main_arg10) = ng) (h11 : m ((d.tc : Thread nD τ).loc main_arg11) = sh)
  (h12 : m ((d.tc : Thread nD τ).loc main_arg12) = sc)

include h0 h1 h2 h3 h4 h5 h6 h7 h8 h9 in
set_option maxRecDepth 16384 in
/-- The reference's first composed term. -/
theorem ref_row (b : Fin 8) (t : Fin 4096) (c : Fin 1024) :
    Value.res_out0 (F := Ideal) m d (ix3 b t c) = row hx hs yh x wi bi wa wb wo g1 b t c := by
  unfold Value.res_out0 Value.res_main_v38
  rw [h0, h1, h2, h3, h4, h5, h6, h7, h8, h9]
  clean_types
  pointwise [row, resid, proj, gelu, Scalar.div_one_add_exp, Scalar.lit_half]
  simp only [← Nat.add_assoc, Nat.reduceAdd]

/-- The reference's norm and modulation of a residual stream `v`, as arrays. -/
def modulatedT (v : FVec Ideal S8x4096x1024 .f32) (g : FVec Ideal S1024 .f32) (sc sh : FVec Ideal S8x1x1024 .f32) :
    FVec Ideal S8x4096x1024 .bf16 :=
  truncf .bf16 (addf (mulf (mulf (mulf v (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf v v) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2
      (broadcastInDim S1x1x1024 ![2] bcast_S1024_S1x1x1024_2 g)))
    (broadcastInDim S8x4096x1024 ![0, 1, 2] bcast_S8x1x1024_S8x4096x1024_0_1_2
      (addf (broadcastInDim S8x1x1024 ![] bcast_S_S8x1x1024 (constant S_ .f32 0x3F800000#32)) sc)))
    (broadcastInDim S8x4096x1024 ![0, 1, 2] bcast_S8x1x1024_S8x4096x1024_0_1_2 sh)) bitsLt_bf16_f32

include h0 h1 h2 h3 h4 h5 h6 h7 h8 h9 h10 h11 h12 in
set_option maxRecDepth 16384 in
/-- The reference's second composed term. -/
theorem ref_next (b : Fin 8) (t : Fin 4096) (c : Fin 1024) :
    Value.res_out1 (F := Ideal) m d (ix3 b t c) = next hx hs yh x wi bi wa wb wo g1 ng sh sc b t c := by
  have hr := ref_row hx hs yh x wi bi wa wb wo g1 m d h0 h1 h2 h3 h4 h5 h6 h7 h8 h9
  obtain ⟨v, hv⟩ : ∃ v : FVec Ideal S8x4096x1024 .f32, v = Value.res_out0 (F := Ideal) m d := ⟨_, rfl⟩
  have e : Value.res_out1 (F := Ideal) m d = modulatedT v (m ((d.tc : Thread nD τ).loc main_arg10))
      (m ((d.tc : Thread nD τ).loc main_arg12)) (m ((d.tc : Thread nD τ).loc main_arg11)) := by
    subst hv
    unfold Value.res_out1 Value.res_main_v58 Value.res_out0 Value.res_main_v38
    rfl
  rw [← hv] at hr
  rw [e, h10, h11, h12]
  unfold modulatedT
  clean_types
  pointwise [next, modulated, hr]

end Reference

end Cert.Proof.Merge

end
-- ==== Proof.Merge.Final.lean ====
/-
  Hand-written. The merge kernel's two result arrays after its run: every grid point writes one block of one whole-array
  function of the arguments, and the 32 blocks fill each array.
-/
module

public import proofs.«01_k».proof.Defs
public import proofs.«01_k».proof.Proof.Merge.Math
public import Idealize.ShloMosaic.Lib.Pipeline.Value

@[expose] public section

noncomputable section

namespace Cert.Proof.Merge

open Idealize.ShloMosaic Idealize.ShloMosaic.Pointwise Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ) (ρ : Dev nD → PrngReg)

/-- The first result as a function of device `d`'s arguments. -/
def G15 (d : Dev nD) : Buf (Elt Ideal) ((d : Thread nD τ).loc main_v12_0) := fun i =>
  row (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6)) (m ((d : Thread nD τ).loc main_arg7)) (m ((d : Thread nD τ).loc main_arg8))
    (m ((d : Thread nD τ).loc main_arg9))
    (i 0) (i 1) (i 2)

/-- The second result as a function of device `d`'s arguments. -/
def G16 (d : Dev nD) : Buf (Elt Ideal) ((d : Thread nD τ).loc main_v12_1) := fun i =>
  next (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6)) (m ((d : Thread nD τ).loc main_arg7)) (m ((d : Thread nD τ).loc main_arg8))
    (m ((d : Thread nD τ).loc main_arg9)) (m ((d : Thread nD τ).loc main_arg10)) (m ((d : Thread nD τ).loc main_arg11))
    (m ((d : Thread nD τ).loc main_arg12))
    (i 0) (i 1) (i 2)

/-! ## What the host prepared -/

theorem V_main_v0 (d : Dev nD) : V m d main_v0 = m ((d : Thread nD τ).loc main_arg4) := by
  show StableHlo.after hostOps0 (fun b => m (d, b)) main_v0 = _
  after_results <;> rfl

theorem V_main_v3 (d : Dev nD) : V m d main_v3 = m ((d : Thread nD τ).loc main_arg0) := by
  show StableHlo.after hostOps0 (fun b => m (d, b)) main_v3 = _
  after_results <;> rfl

theorem V_main_v4 (d : Dev nD) : V m d main_v4 = m ((d : Thread nD τ).loc main_arg1) := by
  show StableHlo.after hostOps0 (fun b => m (d, b)) main_v4 = _
  after_results <;> rfl

theorem V_main_v5 (d : Dev nD) : V m d main_v5 = m ((d : Thread nD τ).loc main_arg2) := by
  show StableHlo.after hostOps0 (fun b => m (d, b)) main_v5 = _
  after_results <;> rfl

theorem V_main_v6 (d : Dev nD) : V m d main_v6 = m ((d : Thread nD τ).loc main_arg6) := by
  show StableHlo.after hostOps0 (fun b => m (d, b)) main_v6 = _
  after_results <;> rfl

theorem V_main_v7 (d : Dev nD) : V m d main_v7 = m ((d : Thread nD τ).loc main_arg7) := by
  show StableHlo.after hostOps0 (fun b => m (d, b)) main_v7 = _
  after_results <;> rfl

theorem V_main_v8 (d : Dev nD) : V m d main_v8 = m ((d : Thread nD τ).loc main_arg8) := by
  show StableHlo.after hostOps0 (fun b => m (d, b)) main_v8 = _
  after_results <;> rfl

theorem V_main_v1 (d : Dev nD) (k : Fin 1024) (j : Fin 2048) :
    V m d main_v1 (ix2 k j) = m ((d : Thread nD τ).loc main_arg4) (ix2 k ⟨5120 + j.val, by omega⟩) := by
  have e : V m d main_v1 = extractStridedSlice S1024x2048 ![0, 5120] (m ((d : Thread nD τ).loc main_arg4)) slices_S1024x7168_S1024x2048_0_5120 := by
    show StableHlo.after hostOps0 (fun b => m (d, b)) main_v1 = _
    after_results <;> rfl
  rw [e]
  clean_types
  pointwise

theorem V_main_v9 (d : Dev nD) (j : Fin 7168) : V m d main_v9 (ix2 0 j) = m ((d : Thread nD τ).loc main_arg5) (ix1 j) := by
  have e : V m d main_v9 = shapeCast S1x7168 (m ((d : Thread nD τ).loc main_arg5)) shapeCasts_S7168_S1x7168 := by
    show StableHlo.after hostOps0 (fun b => m (d, b)) main_v9 = _
    after_results <;> rfl
  rw [e]
  clean_types
  pointwise

theorem V_main_v10 (d : Dev nD) (j : Fin 2048) :
    V m d main_v10 (ix2 0 j) = m ((d : Thread nD τ).loc main_arg5) (ix1 ⟨5120 + j.val, by omega⟩) := by
  have e : V m d main_v10 = shapeCast S1x2048 (extractStridedSlice S2048 ![5120] (m ((d : Thread nD τ).loc main_arg5)) slices_S7168_S2048_5120) shapeCasts_S2048_S1x2048 := by
    show StableHlo.after hostOps0 (fun b => m (d, b)) main_v10 = _
    after_results <;> rfl
  rw [e]
  clean_types
  pointwise

theorem V_main_v11 (d : Dev nD) (k : Fin 1024) : V m d main_v11 (ix2 0 k) = m ((d : Thread nD τ).loc main_arg10) (ix1 k) := by
  have e : V m d main_v11 = shapeCast S1x1024 (m ((d : Thread nD τ).loc main_arg10)) shapeCasts_S1024_S1x1024 := by
    show StableHlo.after hostOps0 (fun b => m (d, b)) main_v11 = _
    after_results <;> rfl
  rw [e]
  clean_types
  pointwise

/-! ## The windows' blocks -/

/-- The grid is 8 batches by 4 row blocks: where the blocks that move lie at a point. -/
theorem idx_rows : ∀ t : Fin cfg0.N,
    (win0_0.index t 0 = t.val / 4 ∧ win0_0.index t 1 = t.val % 4 ∧ win0_0.index t 2 = 0)
    ∧ (win0_1.index t 0 = t.val / 4 ∧ win0_1.index t 1 = t.val % 4 ∧ win0_1.index t 2 = 0)
    ∧ (win0_2.index t 0 = t.val / 4 ∧ win0_2.index t 1 = t.val % 4 ∧ win0_2.index t 2 = 0)
    ∧ (win0_3.index t 0 = t.val / 4 ∧ win0_3.index t 1 = t.val % 4 ∧ win0_3.index t 2 = 0)
    ∧ (win0_15.index t 0 = t.val / 4 ∧ win0_15.index t 1 = t.val % 4 ∧ win0_15.index t 2 = 0)
    ∧ (win0_16.index t 0 = t.val / 4 ∧ win0_16.index t 1 = t.val % 4 ∧ win0_16.index t 2 = 0) :=
  (by decide +kernel : ∀ t : Fin grid0.N, _)

theorem idx_vecs : ∀ t : Fin cfg0.N,
    (win0_11.index t 0 = t.val / 4 ∧ win0_11.index t 1 = 0 ∧ win0_11.index t 2 = 0)
    ∧ (win0_13.index t 0 = t.val / 4 ∧ win0_13.index t 1 = 0 ∧ win0_13.index t 2 = 0)
    ∧ (win0_14.index t 0 = t.val / 4 ∧ win0_14.index t 1 = 0 ∧ win0_14.index t 2 = 0) :=
  (by decide +kernel : ∀ t : Fin grid0.N, _)

/-- The weights' blocks stay where they are. -/
theorem idx_mats : ∀ t : Fin cfg0.N,
    (win0_4.index t 0 = 0 ∧ win0_4.index t 1 = 1)
    ∧ (win0_5.index t 0 = 0 ∧ win0_5.index t 1 = 1)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_12.index t 0 = 0 ∧ win0_12.index t 1 = 0) :=
  (by decide +kernel : ∀ t : Fin grid0.N, _)

theorem t_lt (t : Fin cfg0.N) : t.val < 32 := lt_of_lt_of_eq t.isLt N_0

/-- Point `t`'s batch, and the position of its block's row `r`. -/
def bat (t : Fin cfg0.N) : Fin 8 := ⟨t.val / 4, by have := t_lt t; omega⟩
def pos (t : Fin cfg0.N) (r : Fin 1024) : Fin 4096 := ⟨t.val % 4 * 1024 + r.val, by omega⟩

theorem iblk0 (d : Dev nD) (t : Fin cfg0.N) (r k : Fin 1024) :
    iblk m d 0 t (ix3 0 r k) = m ((d : Thread nD τ).loc main_arg0) (ix3 (bat t) (pos t r) k) := by
  obtain ⟨e0, e1, e2⟩ := (idx_rows t).1
  rw [← V_main_v3 m d]
  refine congrArg (V m d main_v3) (funext fun a => Fin.ext ?_)
  match a with
  | ⟨0, _⟩ => show win0_0.index t 0 * 1 + 1 * 0 = t.val / 4; omega
  | ⟨1, _⟩ => show win0_0.index t 1 * 1024 + 1 * r.val = t.val % 4 * 1024 + r.val; omega
  | ⟨2, _⟩ => show win0_0.index t 2 * 1024 + 1 * k.val = k.val; omega

theorem iblk1 (d : Dev nD) (t : Fin cfg0.N) (r k : Fin 1024) :
    iblk m d 1 t (ix3 0 r k) = m ((d : Thread nD τ).loc main_arg1) (ix3 (bat t) (pos t r) k) := by
  obtain ⟨e0, e1, e2⟩ := (idx_rows t).2.1
  rw [← V_main_v4 m d]
  refine congrArg (V m d main_v4) (funext fun a => Fin.ext ?_)
  match a with
  | ⟨0, _⟩ => show win0_1.index t 0 * 1 + 1 * 0 = t.val / 4; omega
  | ⟨1, _⟩ => show win0_1.index t 1 * 1024 + 1 * r.val = t.val % 4 * 1024 + r.val; omega
  | ⟨2, _⟩ => show win0_1.index t 2 * 1024 + 1 * k.val = k.val; omega

theorem iblk2 (d : Dev nD) (t : Fin cfg0.N) (r k : Fin 1024) :
    iblk m d 2 t (ix3 0 r k) = m ((d : Thread nD τ).loc main_arg2) (ix3 (bat t) (pos t r) k) := by
  obtain ⟨e0, e1, e2⟩ := (idx_rows t).2.2.1
  rw [← V_main_v5 m d]
  refine congrArg (V m d main_v5) (funext fun a => Fin.ext ?_)
  match a with
  | ⟨0, _⟩ => show win0_2.index t 0 * 1 + 1 * 0 = t.val / 4; omega
  | ⟨1, _⟩ => show win0_2.index t 1 * 1024 + 1 * r.val = t.val % 4 * 1024 + r.val; omega
  | ⟨2, _⟩ => show win0_2.index t 2 * 1024 + 1 * k.val = k.val; omega

theorem iblk3 (d : Dev nD) (t : Fin cfg0.N) (r k : Fin 1024) :
    iblk m d 3 t (ix3 0 r k) = m ((d : Thread nD τ).loc main_arg3) (ix3 (bat t) (pos t r) k) := by
  obtain ⟨e0, e1, e2⟩ := (idx_rows t).2.2.2.1
  rw [← V_main_arg3 m d]
  refine congrArg (V m d main_arg3) (funext fun a => Fin.ext ?_)
  match a with
  | ⟨0, _⟩ => show win0_3.index t 0 * 1 + 1 * 0 = t.val / 4; omega
  | ⟨1, _⟩ => show win0_3.index t 1 * 1024 + 1 * r.val = t.val % 4 * 1024 + r.val; omega
  | ⟨2, _⟩ => show win0_3.index t 2 * 1024 + 1 * k.val = k.val; omega

theorem iblk11 (d : Dev nD) (t : Fin cfg0.N) (k : Fin 1024) :
    iblk m d 11 t (ix3 0 0 k) = m ((d : Thread nD τ).loc main_arg9) (ix3 (bat t) 0 k) := by
  obtain ⟨e0, e1, e2⟩ := (idx_vecs t).1
  rw [← V_main_arg9 m d]
  refine congrArg (V m d main_arg9) (funext fun a => Fin.ext ?_)
  match a with
  | ⟨0, _⟩ => show win0_11.index t 0 * 1 + 1 * 0 = t.val / 4; omega
  | ⟨1, _⟩ => show win0_11.index t 1 * 1 + 1 * 0 = 0; omega
  | ⟨2, _⟩ => show win0_11.index t 2 * 1024 + 1 * k.val = k.val; omega

theorem iblk13 (d : Dev nD) (t : Fin cfg0.N) (k : Fin 1024) :
    iblk m d 13 t (ix3 0 0 k) = m ((d : Thread nD τ).loc main_arg11) (ix3 (bat t) 0 k) := by
  obtain ⟨e0, e1, e2⟩ := (idx_vecs t).2.1
  rw [← V_main_arg11 m d]
  refine congrArg (V m d main_arg11) (funext fun a => Fin.ext ?_)
  match a with
  | ⟨0, _⟩ => show win0_13.index t 0 * 1 + 1 * 0 = t.val / 4; omega
  | ⟨1, _⟩ => show win0_13.index t 1 * 1 + 1 * 0 = 0; omega
  | ⟨2, _⟩ => show win0_13.index t 2 * 1024 + 1 * k.val = k.val; omega

theorem iblk14 (d : Dev nD) (t : Fin cfg0.N) (k : Fin 1024) :
    iblk m d 14 t (ix3 0 0 k) = m ((d : Thread nD τ).loc main_arg12) (ix3 (bat t) 0 k) := by
  obtain ⟨e0, e1, e2⟩ := (idx_vecs t).2.2
  rw [← V_main_arg12 m d]
  refine congrArg (V m d main_arg12) (funext fun a => Fin.ext ?_)
  match a with
  | ⟨0, _⟩ => show win0_14.index t 0 * 1 + 1 * 0 = t.val / 4; omega
  | ⟨1, _⟩ => show win0_14.index t 1 * 1 + 1 * 0 = 0; omega
  | ⟨2, _⟩ => show win0_14.index t 2 * 1024 + 1 * k.val = k.val; omega

theorem iblk4 (d : Dev nD) (t : Fin cfg0.N) (k : Fin 1024) (j : Fin 1024) :
    iblk m d 4 t (ix2 k j) = m ((d : Thread nD τ).loc main_arg4) (ix2 k ⟨1024 + j.val, by omega⟩) := by
  obtain ⟨e0, e1⟩ := (idx_mats t).1
  rw [← V_main_v0 m d]
  refine congrArg (V m d main_v0) (funext fun a => Fin.ext ?_)
  match a with
  | ⟨0, _⟩ => show win0_4.index t 0 * 1024 + 1 * k.val = k.val; omega
  | ⟨1, _⟩ => show win0_4.index t 1 * 1024 + 1 * j.val = 1024 + j.val; omega

theorem iblk5 (d : Dev nD) (t : Fin cfg0.N) (j : Fin 1024) :
    iblk m d 5 t (ix2 0 j) = m ((d : Thread nD τ).loc main_arg5) (ix1 ⟨1024 + j.val, by omega⟩) := by
  obtain ⟨e0, e1⟩ := (idx_mats t).2.1
  rw [← V_main_v9 m d]
  refine congrArg (V m d main_v9) (funext fun a => Fin.ext ?_)
  match a with
  | ⟨0, _⟩ => show win0_5.index t 0 * 1 + 1 * 0 = 0; omega
  | ⟨1, _⟩ => show win0_5.index t 1 * 1024 + 1 * j.val = 1024 + j.val; omega

theorem iblk6 (d : Dev nD) (t : Fin cfg0.N) (k : Fin 1024) (j : Fin 2048) :
    iblk m d 6 t (ix2 k j) = m ((d : Thread nD τ).loc main_arg4) (ix2 k ⟨5120 + j.val, by omega⟩) := by
  obtain ⟨e0, e1⟩ := (idx_mats t).2.2.1
  rw [← V_main_v1 m d]
  refine congrArg (V m d main_v1) (funext fun a => Fin.ext ?_)
  match a with
  | ⟨0, _⟩ => show win0_6.index t 0 * 1024 + 1 * k.val = k.val; omega
  | ⟨1, _⟩ => show win0_6.index t 1 * 2048 + 1 * j.val = j.val; omega

theorem iblk7 (d : Dev nD) (t : Fin cfg0.N) (j : Fin 2048) :
    iblk m d 7 t (ix2 0 j) = m ((d : Thread nD τ).loc main_arg5) (ix1 ⟨5120 + j.val, by omega⟩) := by
  obtain ⟨e0, e1⟩ := (idx_mats t).2.2.2.1
  rw [← V_main_v10 m d]
  refine congrArg (V m d main_v10) (funext fun a => Fin.ext ?_)
  match a with
  | ⟨0, _⟩ => show win0_7.index t 0 * 1 + 1 * 0 = 0; omega
  | ⟨1, _⟩ => show win0_7.index t 1 * 2048 + 1 * j.val = j.val; omega

theorem iblk8 (d : Dev nD) (t : Fin cfg0.N) (k : Fin 1024) (j : Fin 1024) :
    iblk m d 8 t (ix2 k j) = m ((d : Thread nD τ).loc main_arg6) (ix2 k j) := by
  obtain ⟨e0, e1⟩ := (idx_mats t).2.2.2.2.1
  rw [← V_main_v6 m d]
  refine congrArg (V m d main_v6) (funext fun a => Fin.ext ?_)
  match a with
  | ⟨0, _⟩ => show win0_8.index t 0 * 1024 + 1 * k.val = k.val; omega
  | ⟨1, _⟩ => show win0_8.index t 1 * 1024 + 1 * j.val = j.val; omega

theorem iblk9 (d : Dev nD) (t : Fin cfg0.N) (k : Fin 1024) (j : Fin 1024) :
    iblk m d 9 t (ix2 k j) = m ((d : Thread nD τ).loc main_arg7) (ix2 k j) := by
  obtain ⟨e0, e1⟩ := (idx_mats t).2.2.2.2.2.1
  rw [← V_main_v7 m d]
  refine congrArg (V m d main_v7) (funext fun a => Fin.ext ?_)
  match a with
  | ⟨0, _⟩ => show win0_9.index t 0 * 1024 + 1 * k.val = k.val; omega
  | ⟨1, _⟩ => show win0_9.index t 1 * 1024 + 1 * j.val = j.val; omega

theorem iblk10 (d : Dev nD) (t : Fin cfg0.N) (k : Fin 1024) (j : Fin 1024) :
    iblk m d 10 t (ix2 k j) = m ((d : Thread nD τ).loc main_arg8) (ix2 k j) := by
  obtain ⟨e0, e1⟩ := (idx_mats t).2.2.2.2.2.2.1
  rw [← V_main_v8 m d]
  refine congrArg (V m d main_v8) (funext fun a => Fin.ext ?_)
  match a with
  | ⟨0, _⟩ => show win0_10.index t 0 * 1024 + 1 * k.val = k.val; omega
  | ⟨1, _⟩ => show win0_10.index t 1 * 1024 + 1 * j.val = j.val; omega

theorem iblk12 (d : Dev nD) (t : Fin cfg0.N) (j : Fin 1024) :
    iblk m d 12 t (ix2 0 j) = m ((d : Thread nD τ).loc main_arg10) (ix1 j) := by
  obtain ⟨e0, e1⟩ := (idx_mats t).2.2.2.2.2.2.2
  rw [← V_main_v11 m d]
  refine congrArg (V m d main_v11) (funext fun a => Fin.ext ?_)
  match a with
  | ⟨0, _⟩ => show win0_12.index t 0 * 1 + 1 * 0 = 0; omega
  | ⟨1, _⟩ => show win0_12.index t 1 * 1024 + 1 * j.val = j.val; omega

/-! ## The result arrays -/

theorem z2 : (![0, 0] : Fin 2 → Nat) = fun _ => 0 := funext fun a => by fin_cases a <;> rfl
theorem z3 : (![0, 0, 0] : Fin 3 → Nat) = fun _ => 0 := funext fun a => by fin_cases a <;> rfl

section Body
variable (x0 x1 x2 : Vec Ideal S1x1024x1024 .bf16) (x3 : Vec Ideal S1x1024x1024 .f32) (x4 : Vec Ideal S1024x1024 .bf16)
  (x5 : Vec Ideal S1x1024 .f32) (x6 : Vec Ideal S1024x2048 .bf16) (x7 : Vec Ideal S1x2048 .f32)
  (x8 x9 x10 : Vec Ideal S1024x1024 .bf16) (x11 : Vec Ideal S1x1x1024 .f32) (x12 : Vec Ideal S1x1024 .f32)
  (x13 x14 : Vec Ideal S1x1x1024 .f32)

/-- The body's first output block, read at an index. -/
theorem out15_apply (r c : Fin 1024) :
    out0_15 x0 x1 x2 x3 x4 x5 x6 x7 x8 x9 x10 x11 x12 x13 x14 (ix3 0 r c)
      = rowK x0 x6 x7 x1 x4 x5 x8 x2 x9 x3 x11 x10 r c := by
  unfold_out out0_15
  rw [Value.canon15_eq, E15_apply]
  repeat first | rw [View.ld_unit_zero z3] | rw [View.ld_unit_zero z2]

/-- The body's second output block, read at an index. -/
theorem out16_apply (r c : Fin 1024) :
    out0_16 x0 x1 x2 x3 x4 x5 x6 x7 x8 x9 x10 x11 x12 x13 x14 (ix3 0 r c)
      = modulated (rowK x0 x6 x7 x1 x4 x5 x8 x2 x9 x3 x11 x10 r) (fun k => x12 (ix2 0 k)) (fun k => x14 (ix3 0 0 k))
          (fun k => x13 (ix3 0 0 k)) c := by
  unfold_out out0_16
  rw [Value.canon16_eq, E16_apply]
  repeat first | rw [View.ld_unit_zero z3] | rw [View.ld_unit_zero z2]

end Body

/-- The residual row of point `t`'s blocks is the arguments' row. -/
theorem rowK_blocks (d : Dev nD) (t : Fin cfg0.N) (r : Fin 1024) :
    rowK (iblk m d 0 t) (iblk m d 6 t) (iblk m d 7 t) (iblk m d 1 t) (iblk m d 4 t) (iblk m d 5 t) (iblk m d 8 t)
        (iblk m d 2 t) (iblk m d 9 t) (iblk m d 3 t) (iblk m d 11 t) (iblk m d 10 t) r
      = row (m ((d : Thread nD τ).loc main_arg0)) (m ((d : Thread nD τ).loc main_arg1)) (m ((d : Thread nD τ).loc main_arg2))
        (m ((d : Thread nD τ).loc main_arg3)) (m ((d : Thread nD τ).loc main_arg4)) (m ((d : Thread nD τ).loc main_arg5))
        (m ((d : Thread nD τ).loc main_arg6)) (m ((d : Thread nD τ).loc main_arg7)) (m ((d : Thread nD τ).loc main_arg8))
        (m ((d : Thread nD τ).loc main_arg9)) (bat t) (pos t r) := by
  funext c
  have e : ∀ j : Fin 1024, (⟨5120 + (1024 + j.val), by omega⟩ : Fin 7168) = ⟨6144 + j.val, by omega⟩ :=
    fun j => Fin.ext (by show 5120 + (1024 + j.val) = 6144 + j.val; omega)
  unfold rowK row proj
  simp only [iblk0, iblk1, iblk2, iblk3, iblk4, iblk5, iblk6, iblk7, iblk8, iblk9, iblk10, iblk11, e]

/-- What point `t` writes back to result 0 is its block of `G15`. -/
theorem flushed15_eq (d : Dev nD) (t : Fin cfg0.N) :
    (dats m 0 d).flushed 15 t = (win0_15.blk t).view.read (Elt Ideal) (G15 m d) := by
  obtain ⟨e0, e1, e2⟩ := (idx_rows t).2.2.2.2.1
  rw [Value.flushed15]
  refine funext fun (y : S1x1024x1024.Idx) => ?_
  obtain ⟨r, c, rfl⟩ : ∃ (r : Fin 1024) (c : Fin 1024), y = ix3 0 r c := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have hi : (win0_15.blk t).view.emb (ix3 0 r c) = ix3 (bat t) (pos t r) c := funext fun a => Fin.ext (by
    match a with
    | ⟨0, _⟩ => show win0_15.index t 0 * 1 + 1 * 0 = t.val / 4; omega
    | ⟨1, _⟩ => show win0_15.index t 1 * 1024 + 1 * r.val = t.val % 4 * 1024 + r.val; omega
    | ⟨2, _⟩ => show win0_15.index t 2 * 1024 + 1 * c.val = c.val; omega)
  show out0_15 _ _ _ _ _ _ _ _ _ _ _ _ _ _ _ (ix3 0 r c) = G15 m d ((win0_15.blk t).view.emb (ix3 0 r c))
  rw [hi, out15_apply]
  exact congrFun (rowK_blocks m d t r) c

theorem mem_blk15 (t : Fin cfg0.N) (i : S8x4096x1024.Idx) :
    i ∈ ((cfg0.win 15).blk t).view.set ↔ ∀ a, win0_15.index t a * S1x1024x1024.size a ≤ (i a : Nat)
      ∧ (i a : Nat) < win0_15.index t a * S1x1024x1024.size a + S1x1024x1024.size a := by
  show i ∈ ((View.whole main_v12_0).slice (win0_15.rect t)).set ↔ _
  rw [View.set_slice_whole, Rect.mem_set_unit]

theorem cover15 (i : S8x4096x1024.Idx) :
    ∃ t : Fin cfg0.N, (cfg0.win 15).flush t = true ∧ i ∈ ((cfg0.win 15).blk t).view.set := by
  have h0 : (i 0 : Nat) < 8 := (i 0).isLt
  have h1 : (i 1 : Nat) < 4096 := (i 1).isLt
  have h2 : (i 2 : Nat) < 1024 := (i 2).isLt
  have hN : cfg0.N = 32 := N_0
  have ht : (i 0 : Nat) * 4 + (i 1 : Nat) / 1024 < cfg0.N := by omega
  refine ⟨⟨(i 0 : Nat) * 4 + (i 1 : Nat) / 1024, ht⟩, flush0_15 _, ?_⟩
  obtain ⟨e0, e1, e2⟩ := (idx_rows ⟨(i 0 : Nat) * 4 + (i 1 : Nat) / 1024, ht⟩).2.2.2.2.1
  dsimp only at e0 e1
  rw [mem_blk15]
  intro a
  match a with
  | ⟨0, _⟩ => show win0_15.index _ 0 * 1 ≤ (i 0 : Nat) ∧ (i 0 : Nat) < win0_15.index _ 0 * 1 + 1
              rw [e0]; omega
  | ⟨1, _⟩ => show win0_15.index _ 1 * 1024 ≤ (i 1 : Nat) ∧ (i 1 : Nat) < win0_15.index _ 1 * 1024 + 1024
              rw [e1]; omega
  | ⟨2, _⟩ => show win0_15.index _ 2 * 1024 ≤ (i 2 : Nat) ∧ (i 2 : Nat) < win0_15.index _ 2 * 1024 + 1024
              rw [e2]; omega

/-- The result array after the run. -/
theorem final15 (d : Dev nD) : (dats m 0 d).arrAt 15 cfg0.N = G15 m d :=
  (dats m 0 d).arrAt_eq_of_cover 15 (G15 m d) (fun t _ => flushed15_eq m d t) cover15

/-- What point `t` writes back to result 1 is its block of `G16`. -/
theorem flushed16_eq (d : Dev nD) (t : Fin cfg0.N) :
    (dats m 0 d).flushed 16 t = (win0_16.blk t).view.read (Elt Ideal) (G16 m d) := by
  obtain ⟨e0, e1, e2⟩ := (idx_rows t).2.2.2.2.2
  rw [Value.flushed16]
  refine funext fun (y : S1x1024x1024.Idx) => ?_
  obtain ⟨r, c, rfl⟩ : ∃ (r : Fin 1024) (c : Fin 1024), y = ix3 0 r c := ⟨y 1, y 2, funext fun a => by
    match a with
    | ⟨0, _⟩ => exact Fin.ext (by have : (y 0).val < 1 := (y 0).isLt; show (y 0).val = 0; omega)
    | ⟨1, _⟩ => rfl
    | ⟨2, _⟩ => rfl⟩
  have hi : (win0_16.blk t).view.emb (ix3 0 r c) = ix3 (bat t) (pos t r) c := funext fun a => Fin.ext (by
    match a with
    | ⟨0, _⟩ => show win0_16.index t 0 * 1 + 1 * 0 = t.val / 4; omega
    | ⟨1, _⟩ => show win0_16.index t 1 * 1024 + 1 * r.val = t.val % 4 * 1024 + r.val; omega
    | ⟨2, _⟩ => show win0_16.index t 2 * 1024 + 1 * c.val = c.val; omega)
  show out0_16 _ _ _ _ _ _ _ _ _ _ _ _ _ _ _ (ix3 0 r c) = G16 m d ((win0_16.blk t).view.emb (ix3 0 r c))
  rw [hi, out16_apply, rowK_blocks]
  simp only [iblk12, iblk13, iblk14]
  rfl

theorem mem_blk16 (t : Fin cfg0.N) (i : S8x4096x1024.Idx) :
    i ∈ ((cfg0.win 16).blk t).view.set ↔ ∀ a, win0_16.index t a * S1x1024x1024.size a ≤ (i a : Nat)
      ∧ (i a : Nat) < win0_16.index t a * S1x1024x1024.size a + S1x1024x1024.size a := by
  show i ∈ ((View.whole main_v12_1).slice (win0_16.rect t)).set ↔ _
  rw [View.set_slice_whole, Rect.mem_set_unit]

theorem cover16 (i : S8x4096x1024.Idx) :
    ∃ t : Fin cfg0.N, (cfg0.win 16).flush t = true ∧ i ∈ ((cfg0.win 16).blk t).view.set := by
  have h0 : (i 0 : Nat) < 8 := (i 0).isLt
  have h1 : (i 1 : Nat) < 4096 := (i 1).isLt
  have h2 : (i 2 : Nat) < 1024 := (i 2).isLt
  have hN : cfg0.N = 32 := N_0
  have ht : (i 0 : Nat) * 4 + (i 1 : Nat) / 1024 < cfg0.N := by omega
  refine ⟨⟨(i 0 : Nat) * 4 + (i 1 : Nat) / 1024, ht⟩, flush0_16 _, ?_⟩
  obtain ⟨e0, e1, e2⟩ := (idx_rows ⟨(i 0 : Nat) * 4 + (i 1 : Nat) / 1024, ht⟩).2.2.2.2.2
  dsimp only at e0 e1
  rw [mem_blk16]
  intro a
  match a with
  | ⟨0, _⟩ => show win0_16.index _ 0 * 1 ≤ (i 0 : Nat) ∧ (i 0 : Nat) < win0_16.index _ 0 * 1 + 1
              rw [e0]; omega
  | ⟨1, _⟩ => show win0_16.index _ 1 * 1024 ≤ (i 1 : Nat) ∧ (i 1 : Nat) < win0_16.index _ 1 * 1024 + 1024
              rw [e1]; omega
  | ⟨2, _⟩ => show win0_16.index _ 2 * 1024 ≤ (i 2 : Nat) ∧ (i 2 : Nat) < win0_16.index _ 2 * 1024 + 1024
              rw [e2]; omega

/-- The result array after the run. -/
theorem final16 (d : Dev nD) : (dats m 0 d).arrAt 16 cfg0.N = G16 m d :=
  (dats m 0 d).arrAt_eq_of_cover 16 (G16 m d) (fun t _ => flushed16_eq m d t) cover16

theorem idx_eq (i : S8x4096x1024.Idx) : i = ix3 (i 0) (i 1) (i 2) := funext fun a => by
  match a with
  | ⟨0, _⟩ => rfl
  | ⟨1, _⟩ => rfl
  | ⟨2, _⟩ => rfl

/-- The merge claim. -/
theorem algebraic : Cert.algebraic_Kernel4Ideal_Reference4Ideal := by
  intro m g m' g' _ hargs
  refine ⟨fun c => G15 m c, fun c => G16 m c, (θ_run _ _ _).mono (fun r h c => ?_) (Value.run_blocks m g),
    (θ_run _ _ _).mono (fun r h c => ?_) (Reference4Ideal.Value.run m' g')⟩
  · obtain ⟨h15, h16, h⟩ := h c
    exact ⟨h15.trans (final15 m c), h16.trans (final16 m c), h⟩
  · obtain ⟨h15, h16, h⟩ := h c
    obtain ⟨a0, a1, a2, a3, a4, a5, a6, a7, a8, a9, a10, a11, a12⟩ := hargs c
    refine ⟨h15.trans (funext fun (i : S8x4096x1024.Idx) => ?_), h16.trans (funext fun (i : S8x4096x1024.Idx) => ?_), h⟩
    · exact (congrArg _ (idx_eq i)).trans
        (ref_row _ _ _ _ _ _ _ _ _ _ m' c a0 a1 a2 a3 a4 a5 a6 a7 a8 a9 (i 0) (i 1) (i 2))
    · exact (congrArg _ (idx_eq i)).trans
        (ref_next _ _ _ _ _ _ _ _ _ _ _ _ _ m' c a0 a1 a2 a3 a4 a5 a6 a7 a8 a9 a10 a11 a12 (i 0) (i 1) (i 2))

end Cert.Proof.Merge

end
-- ==== Proof.Rglru.Steps.lean ====
/- Hand-written: the unrolled steps of the forward recurrence as one recursion over the step number. -/
module

public import proofs.«01_k».proof.Proof.Gen.KernelIdeal.Value
public import Idealize.ShloMosaic.Lib.Pointwise

@[expose] public section

set_option maxRecDepth 1000000
set_option maxHeartbeats 0

noncomputable section

namespace Cert.Proof.Rglru

open Idealize.ShloMosaic Idealize.ShloMosaic.Pointwise Idealize.ShloMosaic.TcCoe Idealize.SL.Sem
open Cert.KernelIdeal Cert.KernelIdeal.Gen

/-- The state after `r` steps, from the state `h` and the coefficients of each step. -/
def state (A B : ℕ → FVec Ideal S8x256 .f32) (h : FVec Ideal S8x256 .f32) : ℕ → FVec Ideal S8x256 .f32
  | 0 => h
  | r + 1 => addf (mulf (A r) (state A B h r)) (B r)

theorem row_inb (r : ℕ) (h : r < 512) : ∀ a, (![8 * r, 0] : Fin 2 → ℕ) a + S8x256.size a ≤ S4096x256.size a := by
  intro a; fin_cases a
  · show 8 * r + 8 ≤ 4096; omega
  · show 0 + 256 ≤ 256; omega

theorem chunk_inb (k : ℕ) (h : k < 8) : ∀ a, (![512 * k, 0] : Fin 2 → ℕ) a + S512x256.size a ≤ S4096x256.size a := by
  intro a; fin_cases a
  · show 512 * k + 512 ≤ 4096; omega
  · show 0 + 256 ≤ 256; omega

/-- The eight rows of step `r`. -/
def rowsOf (r : ℕ) : Rect S4096x256 :=
  Rect.unit ![8 * (r % 512), 0] S8x256.size (row_inb (r % 512) (Nat.mod_lt _ (by decide)))

/-- The rows of chunk `k`. -/
def chunkOf (k : ℕ) : Rect S4096x256 :=
  Rect.unit ![512 * (k % 8), 0] S512x256.size (chunk_inb (k % 8) (Nat.mod_lt _ (by decide)))

/-- The whole of the carried state. -/
def stateRect : Rect S8x256 := Rect.unit ![0, 0] S8x256.size inb_S8x256_S8x256_0_0

/-- What the first `n` steps store, the last first. -/
def pieces (A B : ℕ → FVec Ideal S8x256 .f32) (h : FVec Ideal S8x256 .f32) : ℕ → List (View.Piece (Elt Ideal) S4096x256 .f32)
  | 0 => []
  | r + 1 => ⟨rowsOf r, state A B h (r + 1)⟩ :: pieces A B h r

/-- The stores of the coefficients of the first `n` chunks, the last first. -/
def stores (P : ℕ → FVec Ideal S512x256 .f32) : ℕ → List (View.Piece (Elt Ideal) S4096x256 .f32)
  | 0 => []
  | k + 1 => ⟨chunkOf k, P k⟩ :: stores P k

/-- What step `r` reads of a scratch that holds the stores `L` of its chunk. -/
def loads (v : View sig .tc .vmem S4096x256 .f32) (L : ℕ → List (View.Piece (Elt Ideal) S4096x256 .f32)) (r : ℕ) : FVec Ideal S8x256 .f32 :=
  v.readCov (L (r / 64)) (rowsOf r).toLoadRect

/-- One of seven lists by number. -/
def pick {α : Type} (a0 a1 a2 a3 a4 a5 a6 : α) : ℕ → α
  | 0 => a0 | 1 => a1 | 2 => a2 | 3 => a3 | 4 => a4 | 5 => a5 | _ => a6

/-- The seven lists that the chunks' steps read are the first stores of one sequence. -/
theorem pick_eq (P : ℕ → FVec Ideal S512x256 .f32) (L2 L3 L4 L5 L6 L7 L8 : List (View.Piece (Elt Ideal) S4096x256 .f32))
    (h2 : L2 = stores P 2) (h3 : L3 = stores P 3) (h4 : L4 = stores P 4) (h5 : L5 = stores P 5) (h6 : L6 = stores P 6) (h7 : L7 = stores P 7)
    (h8 : L8 = stores P 8) : pick L2 L3 L4 L5 L6 L7 L8 = fun q => stores P (min (q + 2) 8) := by
  funext q
  subst h2 h3 h4 h5 h6 h7 h8
  match q with
  | 0 | 1 | 2 | 3 | 4 | 5 => rfl
  | q + 6 => rw [Nat.min_eq_right (by omega)]; rfl

section
variable (x0 : Vec Ideal S4096x256 .bf16) (x1 : Vec Ideal S1x1x256x512 .bf16) (x2 : Vec Ideal S1x1x1x512 .f32) (x3 : Vec Ideal S1x1x256 .f32)

/-- The decay coefficients of a chunk of rows. -/
def coefA (u : Vec Ideal S512x256 .bf16) (w : Vec Ideal S1x1x256x512 .bf16) (b : Vec Ideal S1x1x1x512 .f32) (lam : Vec Ideal S1x1x256 .f32) :
    FVec Ideal S512x256 .f32 := k0_pay12 (k0_pay7 lam) (k0_pay9 u w b)

/-- The input coefficients of a chunk of rows. -/
def coefB (u : Vec Ideal S512x256 .bf16) (w : Vec Ideal S1x1x256x512 .bf16) (b : Vec Ideal S1x1x1x512 .f32) (lam : Vec Ideal S1x1x256 .f32) :
    FVec Ideal S512x256 .f32 := k0_pay13 (k0_pay6 u) (k0_pay7 lam) (k0_pay8 u w b) (k0_pay9 u w b)

section
variable (arg2 : Memref sig .tc .vmem S4096x256 .bf16) (harg2 : arg2.IsWhole) (arg3 : Memref sig .tc .vmem S1x1x256x512 .bf16) (harg3 : arg3.IsWhole) (arg4 : Memref sig .tc .vmem S1x1x1x512 .f32) (harg4 : arg4.IsWhole) (arg5 : Memref sig .tc .vmem S1x1x256 .f32) (harg5 : arg5.IsWhole)

/-- A chunk's coefficients as the body reads them off its buffers. -/
def read4 (f : Vec Ideal S512x256 .bf16 → Vec Ideal S1x1x256x512 .bf16 → Vec Ideal S1x1x1x512 .f32 → Vec Ideal S1x1x256 .f32 → FVec Ideal S512x256 .f32)
    (k : ℕ) : FVec Ideal S512x256 .f32 :=
  f (View.readAt (Elt Ideal) arg2.view (chunkOf k).toLoadRect (harg2.unread x0))
    (View.readAt (Elt Ideal) arg3.view (Rect.unit ![0, 0, 0, 0] S1x1x256x512.size inb_S1x1x256x512_S1x1x256x512_0_0_0_0).toLoadRect (harg3.unread x1))
    (View.readAt (Elt Ideal) arg4.view (Rect.unit ![0, 0, 0, 0] S1x1x1x512.size inb_S1x1x1x512_S1x1x1x512_0_0_0_0).toLoadRect (harg4.unread x2))
    (View.readAt (Elt Ideal) arg5.view (Rect.unit ![0, 0, 0] S1x1x256.size inb_S1x1x256_S1x1x256_0_0_0).toLoadRect (harg5.unread x3))

end

end

end Cert.Proof.Rglru

end
-- ==== Proof.Rglru.CaseA.lean ====
/- Hand-written: what the body stores at a grid point that begins with the initial state. -/
module

public import proofs.«01_k».proof.Proof.Rglru.Steps
public import Idealize.ShloMosaic.Lib.Pointwise

@[expose] public section

set_option maxRecDepth 1000000
set_option maxHeartbeats 0

noncomputable section

namespace Cert.Proof.Rglru

open Idealize.ShloMosaic Idealize.ShloMosaic.Pointwise Idealize.ShloMosaic.TcCoe Idealize.SL.Sem
open Cert.KernelIdeal Cert.KernelIdeal.Gen

section
variable (c : Dev nD) (i : grid0.Coords) (arg2 : Memref sig .tc .vmem S4096x256 .bf16) (harg2 : arg2.IsWhole) (arg3 : Memref sig .tc .vmem S1x1x256x512 .bf16) (harg3 : arg3.IsWhole) (arg4 : Memref sig .tc .vmem S1x1x1x512 .f32) (harg4 : arg4.IsWhole) (arg5 : Memref sig .tc .vmem S1x1x256 .f32) (harg5 : arg5.IsWhole) (arg6 : Memref sig .tc .vmem S8x256 .f32) (harg6 : arg6.IsWhole) (arg7 : Memref sig .tc .vmem S4096x256 .f32) (harg7 : arg7.IsWhole) (arg8 : Memref sig .tc .vmem S8x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S8x256 .f32) (harg11 : arg11.IsWhole) (hc0 : cond0_0 i)
    (x0 : Vec Ideal S4096x256 .bf16) (x1 : Vec Ideal S1x1x256x512 .bf16) (x2 : Vec Ideal S1x1x1x512 .f32) (x3 : Vec Ideal S1x1x256 .f32) (x4 : Vec Ideal S8x256 .f32)

/-- The stores of the decay coefficients before the steps of each chunk. -/
def listA_A : ℕ → List (View.Piece (Elt Ideal) S4096x256 .f32) :=
  pick (kernelRun0_A.sl.HS0_2 c arg2 harg2 arg3 harg3 arg4 harg4 arg5 harg5 x0 x1 x2 x3)
    (kernelRun0_A.sl.HS0_3 c arg2 harg2 arg3 harg3 arg4 harg4 arg5 harg5 x0 x1 x2 x3)
    (kernelRun0_A.sl.HS0_4 c arg2 harg2 arg3 harg3 arg4 harg4 arg5 harg5 x0 x1 x2 x3)
    (kernelRun0_A.sl.HS0_5 c arg2 harg2 arg3 harg3 arg4 harg4 arg5 harg5 x0 x1 x2 x3)
    (kernelRun0_A.sl.HS0_6 c arg2 harg2 arg3 harg3 arg4 harg4 arg5 harg5 x0 x1 x2 x3)
    (kernelRun0_A.sl.HS0_7 c arg2 harg2 arg3 harg3 arg4 harg4 arg5 harg5 x0 x1 x2 x3)
    (kernelRun0_A.sl.HS0_8 c arg2 harg2 arg3 harg3 arg4 harg4 arg5 harg5 x0 x1 x2 x3)

/-- The stores of the input coefficients before the steps of each chunk. -/
def listB_A : ℕ → List (View.Piece (Elt Ideal) S4096x256 .f32) :=
  pick (kernelRun0_A.sl.HS1_2 c arg2 harg2 arg3 harg3 arg4 harg4 arg5 harg5 x0 x1 x2 x3)
    (kernelRun0_A.sl.HS1_3 c arg2 harg2 arg3 harg3 arg4 harg4 arg5 harg5 x0 x1 x2 x3)
    (kernelRun0_A.sl.HS1_4 c arg2 harg2 arg3 harg3 arg4 harg4 arg5 harg5 x0 x1 x2 x3)
    (kernelRun0_A.sl.HS1_5 c arg2 harg2 arg3 harg3 arg4 harg4 arg5 harg5 x0 x1 x2 x3)
    (kernelRun0_A.sl.HS1_6 c arg2 harg2 arg3 harg3 arg4 harg4 arg5 harg5 x0 x1 x2 x3)
    (kernelRun0_A.sl.HS1_7 c arg2 harg2 arg3 harg3 arg4 harg4 arg5 harg5 x0 x1 x2 x3)
    (kernelRun0_A.sl.HS1_8 c arg2 harg2 arg3 harg3 arg4 harg4 arg5 harg5 x0 x1 x2 x3)

/-- The body's stores: the rows of all steps, and the last state into the output and into the carried state. -/
theorem run_A : ((kernelRun0_A (F := Ideal) c i arg2 harg2 arg3 harg3 arg4 harg4 arg5 harg5 arg6 harg6 arg7 harg7 arg8 harg8 arg9 harg9 arg10 harg10 arg11 harg11 hc0 x0 x1 x2 x3 x4).1, (kernelRun0_A (F := Ideal) c i arg2 harg2 arg3 harg3 arg4 harg4 arg5 harg5 arg6 harg6 arg7 harg7 arg8 harg8 arg9 harg9 arg10 harg10 arg11 harg11 hc0 x0 x1 x2 x3 x4).2.1, (kernelRun0_A (F := Ideal) c i arg2 harg2 arg3 harg3 arg4 harg4 arg5 harg5 arg6 harg6 arg7 harg7 arg8 harg8 arg9 harg9 arg10 harg10 arg11 harg11 hc0 x0 x1 x2 x3 x4).2.2.1)
    = (pieces (loads arg9.view (listA_A c arg2 harg2 arg3 harg3 arg4 harg4 arg5 harg5 x0 x1 x2 x3)) (loads arg10.view (listB_A c arg2 harg2 arg3 harg3 arg4 harg4 arg5 harg5 x0 x1 x2 x3))
      (View.readCov (Val := Elt Ideal) arg11.view [⟨stateRect, k0_pay5 (View.readAt (Elt Ideal) arg6.view stateRect.toLoadRect (harg6.unread x4))⟩] stateRect.toLoadRect) 512,
      [⟨stateRect, state (loads arg9.view (listA_A c arg2 harg2 arg3 harg3 arg4 harg4 arg5 harg5 x0 x1 x2 x3)) (loads arg10.view (listB_A c arg2 harg2 arg3 harg3 arg4 harg4 arg5 harg5 x0 x1 x2 x3))
      (View.readCov (Val := Elt Ideal) arg11.view [⟨stateRect, k0_pay5 (View.readAt (Elt Ideal) arg6.view stateRect.toLoadRect (harg6.unread x4))⟩] stateRect.toLoadRect) 512⟩],
      ⟨stateRect, shapeCast S8x256 (state (loads arg9.view (listA_A c arg2 harg2 arg3 harg3 arg4 harg4 arg5 harg5 x0 x1 x2 x3)) (loads arg10.view (listB_A c arg2 harg2 arg3 harg3 arg4 harg4 arg5 harg5 x0 x1 x2 x3))
      (View.readCov (Val := Elt Ideal) arg11.view [⟨stateRect, k0_pay5 (View.readAt (Elt Ideal) arg6.view stateRect.toLoadRect (harg6.unread x4))⟩] stateRect.toLoadRect) 512) shapeCasts_S8x256_S8x256⟩ :: [⟨stateRect, k0_pay5 (View.readAt (Elt Ideal) arg6.view stateRect.toLoadRect (harg6.unread x4))⟩]) := rfl

theorem listA_A_eq : listA_A c arg2 harg2 arg3 harg3 arg4 harg4 arg5 harg5 x0 x1 x2 x3
    = fun q => stores (read4 x0 x1 x2 x3 arg2 harg2 arg3 harg3 arg4 harg4 arg5 harg5 coefA) (min (q + 2) 8) :=
  pick_eq _ _ _ _ _ _ _ _ rfl rfl rfl rfl rfl rfl rfl

theorem listB_A_eq : listB_A c arg2 harg2 arg3 harg3 arg4 harg4 arg5 harg5 x0 x1 x2 x3
    = fun q => stores (read4 x0 x1 x2 x3 arg2 harg2 arg3 harg3 arg4 harg4 arg5 harg5 coefB) (min (q + 2) 8) :=
  pick_eq _ _ _ _ _ _ _ _ rfl rfl rfl rfl rfl rfl rfl

end

end Cert.Proof.Rglru

end
-- ==== Proof.Rglru.CaseB.lean ====
/- Hand-written: what the body stores at a grid point that goes on with the carried state. -/
module

public import proofs.«01_k».proof.Proof.Rglru.Steps
public import Idealize.ShloMosaic.Lib.Pointwise

@[expose] public section

set_option maxRecDepth 1000000
set_option maxHeartbeats 0

noncomputable section

namespace Cert.Proof.Rglru

open Idealize.ShloMosaic Idealize.ShloMosaic.Pointwise Idealize.ShloMosaic.TcCoe Idealize.SL.Sem
open Cert.KernelIdeal Cert.KernelIdeal.Gen

section
variable (c : Dev nD) (i : grid0.Coords) (arg2 : Memref sig .tc .vmem S4096x256 .bf16) (harg2 : arg2.IsWhole) (arg3 : Memref sig .tc .vmem S1x1x256x512 .bf16) (harg3 : arg3.IsWhole) (arg4 : Memref sig .tc .vmem S1x1x1x512 .f32) (harg4 : arg4.IsWhole) (arg5 : Memref sig .tc .vmem S1x1x256 .f32) (harg5 : arg5.IsWhole) (arg6 : Memref sig .tc .vmem S8x256 .f32) (harg6 : arg6.IsWhole) (arg7 : Memref sig .tc .vmem S4096x256 .f32) (harg7 : arg7.IsWhole) (arg8 : Memref sig .tc .vmem S8x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S8x256 .f32) (harg11 : arg11.IsWhole) (hc0 : ¬cond0_0 i)
    (x0 : Vec Ideal S4096x256 .bf16) (x1 : Vec Ideal S1x1x256x512 .bf16) (x2 : Vec Ideal S1x1x1x512 .f32) (x3 : Vec Ideal S1x1x256 .f32) (x4 : Vec Ideal S8x256 .f32) (xs2 : Vec Ideal S8x256 .f32)

/-- The stores of the decay coefficients before the steps of each chunk. -/
def listA_B : ℕ → List (View.Piece (Elt Ideal) S4096x256 .f32) :=
  pick (kernelRun0_B.sl.HS0_2 c arg2 harg2 arg3 harg3 arg4 harg4 arg5 harg5 x0 x1 x2 x3)
    (kernelRun0_B.sl.HS0_3 c arg2 harg2 arg3 harg3 arg4 harg4 arg5 harg5 x0 x1 x2 x3)
    (kernelRun0_B.sl.HS0_4 c arg2 harg2 arg3 harg3 arg4 harg4 arg5 harg5 x0 x1 x2 x3)
    (kernelRun0_B.sl.HS0_5 c arg2 harg2 arg3 harg3 arg4 harg4 arg5 harg5 x0 x1 x2 x3)
    (kernelRun0_B.sl.HS0_6 c arg2 harg2 arg3 harg3 arg4 harg4 arg5 harg5 x0 x1 x2 x3)
    (kernelRun0_B.sl.HS0_7 c arg2 harg2 arg3 harg3 arg4 harg4 arg5 harg5 x0 x1 x2 x3)
    (kernelRun0_B.sl.HS0_8 c arg2 harg2 arg3 harg3 arg4 harg4 arg5 harg5 x0 x1 x2 x3)

/-- The stores of the input coefficients before the steps of each chunk. -/
def listB_B : ℕ → List (View.Piece (Elt Ideal) S4096x256 .f32) :=
  pick (kernelRun0_B.sl.HS1_2 c arg2 harg2 arg3 harg3 arg4 harg4 arg5 harg5 x0 x1 x2 x3)
    (kernelRun0_B.sl.HS1_3 c arg2 harg2 arg3 harg3 arg4 harg4 arg5 harg5 x0 x1 x2 x3)
    (kernelRun0_B.sl.HS1_4 c arg2 harg2 arg3 harg3 arg4 harg4 arg5 harg5 x0 x1 x2 x3)
    (kernelRun0_B.sl.HS1_5 c arg2 harg2 arg3 harg3 arg4 harg4 arg5 harg5 x0 x1 x2 x3)
    (kernelRun0_B.sl.HS1_6 c arg2 harg2 arg3 harg3 arg4 harg4 arg5 harg5 x0 x1 x2 x3)
    (kernelRun0_B.sl.HS1_7 c arg2 harg2 arg3 harg3 arg4 harg4 arg5 harg5 x0 x1 x2 x3)
    (kernelRun0_B.sl.HS1_8 c arg2 harg2 arg3 harg3 arg4 harg4 arg5 harg5 x0 x1 x2 x3)

/-- The body's stores: the rows of all steps, and the last state into the output and into the carried state. -/
theorem run_B : ((kernelRun0_B (F := Ideal) c i arg2 harg2 arg3 harg3 arg4 harg4 arg5 harg5 arg6 harg6 arg7 harg7 arg8 harg8 arg9 harg9 arg10 harg10 arg11 harg11 hc0 x0 x1 x2 x3 x4 xs2).1, (kernelRun0_B (F := Ideal) c i arg2 harg2 arg3 harg3 arg4 harg4 arg5 harg5 arg6 harg6 arg7 harg7 arg8 harg8 arg9 harg9 arg10 harg10 arg11 harg11 hc0 x0 x1 x2 x3 x4 xs2).2.1, (kernelRun0_B (F := Ideal) c i arg2 harg2 arg3 harg3 arg4 harg4 arg5 harg5 arg6 harg6 arg7 harg7 arg8 harg8 arg9 harg9 arg10 harg10 arg11 harg11 hc0 x0 x1 x2 x3 x4 xs2).2.2.1)
    = (pieces (loads arg9.view (listA_B c arg2 harg2 arg3 harg3 arg4 harg4 arg5 harg5 x0 x1 x2 x3)) (loads arg10.view (listB_B c arg2 harg2 arg3 harg3 arg4 harg4 arg5 harg5 x0 x1 x2 x3))
      (kernelRun0_B.sl.r c arg11 harg11 xs2) 512,
      [⟨stateRect, state (loads arg9.view (listA_B c arg2 harg2 arg3 harg3 arg4 harg4 arg5 harg5 x0 x1 x2 x3)) (loads arg10.view (listB_B c arg2 harg2 arg3 harg3 arg4 harg4 arg5 harg5 x0 x1 x2 x3))
      (kernelRun0_B.sl.r c arg11 harg11 xs2) 512⟩],
      ⟨stateRect, shapeCast S8x256 (state (loads arg9.view (listA_B c arg2 harg2 arg3 harg3 arg4 harg4 arg5 harg5 x0 x1 x2 x3)) (loads arg10.view (listB_B c arg2 harg2 arg3 harg3 arg4 harg4 arg5 harg5 x0 x1 x2 x3))
      (kernelRun0_B.sl.r c arg11 harg11 xs2) 512) shapeCasts_S8x256_S8x256⟩ :: []) := rfl

theorem listA_B_eq : listA_B c arg2 harg2 arg3 harg3 arg4 harg4 arg5 harg5 x0 x1 x2 x3
    = fun q => stores (read4 x0 x1 x2 x3 arg2 harg2 arg3 harg3 arg4 harg4 arg5 harg5 coefA) (min (q + 2) 8) :=
  pick_eq _ _ _ _ _ _ _ _ rfl rfl rfl rfl rfl rfl rfl

theorem listB_B_eq : listB_B c arg2 harg2 arg3 harg3 arg4 harg4 arg5 harg5 x0 x1 x2 x3
    = fun q => stores (read4 x0 x1 x2 x3 arg2 harg2 arg3 harg3 arg4 harg4 arg5 harg5 coefB) (min (q + 2) 8) :=
  pick_eq _ _ _ _ _ _ _ _ rfl rfl rfl rfl rfl rfl rfl

end

end Cert.Proof.Rglru

end
-- ==== Proof.Rglru.Lin.lean ====
/- Hand-written: the linear recurrence that both programs run, at one batch row and one lane. -/
module

public import Idealize.ShloMosaic.Lib.Pointwise

@[expose] public section

noncomputable section

namespace Cert.Proof.Rglru

open Idealize.ShloMosaic

/-- The state after `n` steps of `h ↦ A n · h + B n`. -/
def lin (A B : ℕ → EReal) (h : EReal) : ℕ → EReal
  | 0 => h
  | n + 1 => A n * lin A B h n + B n

/-- The state depends on the coefficients of the steps made only. -/
theorem lin_congr (A B A' B' : ℕ → EReal) (h h' : EReal) (n : ℕ) (hh : h = h') (hA : ∀ k < n, A k = A' k) (hB : ∀ k < n, B k = B' k) :
    lin A B h n = lin A' B' h' n := by
  induction n with
  | zero => exact hh
  | succ n ih =>
    show A n * lin A B h n + B n = A' n * lin A' B' h' n + B' n
    rw [hA n (Nat.lt_succ_self n), hB n (Nat.lt_succ_self n), ih (fun k hk => hA k (by omega)) (fun k hk => hB k (by omega))]

/-- `m` steps and then `n` more. -/
theorem lin_add (A B : ℕ → EReal) (h : EReal) (m n : ℕ) :
    lin A B h (m + n) = lin (fun k => A (m + k)) (fun k => B (m + k)) (lin A B h m) n := by
  induction n with
  | zero => rfl
  | succ n ih =>
    show A (m + n) * lin A B h (m + n) + B (m + n) = _
    rw [ih]
    rfl

end Cert.Proof.Rglru

end
-- ==== Proof.Rglru.Chunk.lean ====
/- Hand-written: what the stores of the coefficients and of the steps leave, entry by entry. -/
module

public import proofs.«01_k».proof.Proof.Rglru.Steps
public import proofs.«01_k».proof.Proof.Rglru.Lin
public import Idealize.ShloMosaic.Lib.Pipeline.Value

@[expose] public section

noncomputable section

namespace Cert.Proof.Rglru

open Idealize.ShloMosaic Idealize.ShloMosaic.Pointwise Idealize.ShloMosaic.TcCoe Idealize.SL.Sem
open Cert.KernelIdeal Cert.KernelIdeal.Gen

/-- The state at one entry is the recurrence of the coefficients at that entry. -/
theorem state_at (A B : ℕ → FVec Ideal S8x256 .f32) (h : FVec Ideal S8x256 .f32) (j : S8x256.Idx) (n : ℕ) :
    state A B h n j = lin (fun r => A r j) (fun r => B r j) (h j) n := by
  induction n with
  | zero => rfl
  | succ n ih =>
    show (A n j : EReal) * state A B h n j + B n j = A n j * lin (fun r => A r j) (fun r => B r j) (h j) n + B n j
    rw [ih]

theorem rowsOf_emb0 (r : ℕ) (x : S8x256.Idx) : ((rowsOf r).emb x 0).val = 8 * (r % 512) + (x 0).val := by
  show 8 * (r % 512) + 1 * (x 0).val = _
  omega

theorem rowsOf_emb1 (r : ℕ) (x : S8x256.Idx) : ((rowsOf r).emb x 1).val = (x 1).val := by
  show 0 + 1 * (x 1).val = _
  omega

theorem chunkOf_emb0 (r : ℕ) (x : S512x256.Idx) : ((chunkOf r).emb x 0).val = 512 * (r % 8) + (x 0).val := by
  show 512 * (r % 8) + 1 * (x 0).val = _
  omega

theorem chunkOf_emb1 (r : ℕ) (x : S512x256.Idx) : ((chunkOf r).emb x 1).val = (x 1).val := by
  show 0 + 1 * (x 1).val = _
  omega

theorem mem_rows (r : ℕ) (hr : r < 512) (y : S4096x256.Idx) (hy : (y 0).val / 8 = r) : y ∈ (rowsOf r).set := by
  refine Rect.mem_set_unit.mpr fun a => ?_
  fin_cases a
  · show 8 * (r % 512) ≤ (y 0).val ∧ (y 0).val < 8 * (r % 512) + 8
    omega
  · exact ⟨Nat.zero_le _, by have h := (y 1).isLt; show (y 1).val < 0 + 256; have h' : (y 1).val < 256 := h; omega⟩

theorem mem_chunk (k : ℕ) (hk : k < 8) (y : S4096x256.Idx) (hy : (y 0).val / 512 = k) : y ∈ (chunkOf k).set := by
  refine Rect.mem_set_unit.mpr fun a => ?_
  fin_cases a
  · show 512 * (k % 8) ≤ (y 0).val ∧ (y 0).val < 512 * (k % 8) + 512
    omega
  · exact ⟨Nat.zero_le _, by have h := (y 1).isLt; show (y 1).val < 0 + 256; have h' : (y 1).val < 256 := h; omega⟩

/-- An entry of eight rows' window. -/
abbrev inRows (y : S4096x256.Idx) : S8x256.Idx :=
  ix2 (⟨(y 0).val % 8, Nat.mod_lt _ (by decide)⟩ : Fin 8) (⟨(y 1).val, (y 1).isLt⟩ : Fin 256)

/-- An entry of a chunk's window. -/
abbrev inChunk (y : S4096x256.Idx) : S512x256.Idx :=
  ix2 (⟨(y 0).val % 512, Nat.mod_lt _ (by decide)⟩ : Fin 512) (⟨(y 1).val, (y 1).isLt⟩ : Fin 256)

theorem inRows_emb (r : ℕ) (x : S8x256.Idx) : inRows ((rowsOf r).emb x) = x := by
  funext a
  have h0 : (x 0).val < 8 := (x 0).isLt
  match a with
  | ⟨0, _⟩ => exact Fin.ext (by show ((rowsOf r).emb x 0).val % 8 = (x 0).val; rw [rowsOf_emb0]; omega)
  | ⟨1, _⟩ => exact Fin.ext (by show ((rowsOf r).emb x 1).val = (x 1).val; rw [rowsOf_emb1])

theorem inChunk_emb (r : ℕ) (x : S512x256.Idx) : inChunk ((chunkOf r).emb x) = x := by
  funext a
  have h0 : (x 0).val < 512 := (x 0).isLt
  match a with
  | ⟨0, _⟩ => exact Fin.ext (by show ((chunkOf r).emb x 0).val % 512 = (x 0).val; rw [chunkOf_emb0]; omega)
  | ⟨1, _⟩ => exact Fin.ext (by show ((chunkOf r).emb x 1).val = (x 1).val; rw [chunkOf_emb1])

theorem piece_entry (A B : ℕ → FVec Ideal S8x256 .f32) (h : FVec Ideal S8x256 .f32) (n : ℕ) (hn : n < 512) (x : S8x256.Idx) :
    state A B h (n + 1) x = state A B h (((rowsOf n).emb x 0).val / 8 + 1) (inRows ((rowsOf n).emb x)) := by
  have h0 : (x 0).val < 8 := (x 0).isLt
  rw [inRows_emb, rowsOf_emb0, show (8 * (n % 512) + (x 0).val) / 8 = n by omega]

theorem store_entry (P : ℕ → FVec Ideal S512x256 .f32) (n : ℕ) (hn : n < 8) (x : S512x256.Idx) :
    P n x = P (((chunkOf n).emb x 0).val / 512) (inChunk ((chunkOf n).emb x)) := by
  have h0 : (x 0).val < 512 := (x 0).isLt
  rw [inChunk_emb, chunkOf_emb0, show (512 * (n % 8) + (x 0).val) / 512 = n by omega]

theorem pieces_mem (A B : ℕ → FVec Ideal S8x256 .f32) (h : FVec Ideal S8x256 .f32) (n : ℕ) (hn : n ≤ 512) :
    ∀ p ∈ pieces A B h n, ∀ x, p.2 x = (fun y : S4096x256.Idx => state A B h ((y 0).val / 8 + 1) (inRows y)) (p.1.emb x) := by
  induction n with
  | zero => intro p hp; exact absurd hp List.not_mem_nil
  | succ n ih =>
    intro p hp x
    rcases List.mem_cons.mp hp with rfl | hp
    · exact piece_entry A B h n (by omega) x
    · exact ih (by omega) p hp x

theorem pieces_cover (A B : ℕ → FVec Ideal S8x256 .f32) (h : FVec Ideal S8x256 .f32) (n : ℕ) (hn : n ≤ 512) (y : S4096x256.Idx) (hy : (y 0).val / 8 < n) :
    ∃ p ∈ pieces A B h n, y ∈ p.1.set := by
  induction n with
  | zero => omega
  | succ n ih =>
    rcases Nat.lt_succ_iff_lt_or_eq.mp hy with hy | hy
    · obtain ⟨p, hp, hm⟩ := ih (by omega) hy
      exact ⟨p, List.mem_cons_of_mem _ hp, hm⟩
    · exact ⟨_, List.mem_cons_self, mem_rows n (by omega) y hy⟩

/-- The steps' stores leave at each row the state after its step. -/
theorem pieces_at (A B : ℕ → FVec Ideal S8x256 .f32) (h : FVec Ideal S8x256 .f32) (y : S4096x256.Idx) :
    View.canon (pieces A B h 512) y = state A B h ((y 0).val / 8 + 1) (inRows y) :=
  View.canon_apply_of_pieces (fun y : S4096x256.Idx => state A B h ((y 0).val / 8 + 1) (inRows y)) _ (pieces_mem A B h 512 le_rfl) y
    (pieces_cover A B h 512 le_rfl y (by have h := (y 0).isLt; have h' : (y 0).val < 4096 := h; omega))

theorem stores_mem (P : ℕ → FVec Ideal S512x256 .f32) (n : ℕ) (hn : n ≤ 8) :
    ∀ p ∈ stores P n, ∀ x, p.2 x = (fun y : S4096x256.Idx => P ((y 0).val / 512) (inChunk y)) (p.1.emb x) := by
  induction n with
  | zero => intro p hp; exact absurd hp List.not_mem_nil
  | succ n ih =>
    intro p hp x
    rcases List.mem_cons.mp hp with rfl | hp
    · exact store_entry P n (by omega) x
    · exact ih (by omega) p hp x

theorem stores_cover (P : ℕ → FVec Ideal S512x256 .f32) (n : ℕ) (hn : n ≤ 8) (y : S4096x256.Idx) (hy : (y 0).val / 512 < n) :
    ∃ p ∈ stores P n, y ∈ p.1.set := by
  induction n with
  | zero => omega
  | succ n ih =>
    rcases Nat.lt_succ_iff_lt_or_eq.mp hy with hy | hy
    · obtain ⟨p, hp, hm⟩ := ih (by omega) hy
      exact ⟨p, List.mem_cons_of_mem _ hp, hm⟩
    · exact ⟨_, List.mem_cons_self, mem_chunk n (by omega) y hy⟩

/-- The chunks' stores leave at each row its chunk's coefficients. -/
theorem stores_at (P : ℕ → FVec Ideal S512x256 .f32) (n : ℕ) (hn : n ≤ 8) (y : S4096x256.Idx) (hy : (y 0).val / 512 < n) :
    View.canon (stores P n) y = P ((y 0).val / 512) (inChunk y) :=
  View.canon_apply_of_pieces (fun y : S4096x256.Idx => P ((y 0).val / 512) (inChunk y)) _ (stores_mem P n hn) y (stores_cover P n hn y hy)

/-- What step `r` reads: the coefficients of its chunk, at its rows. -/
theorem loads_at (v : View sig .tc .vmem S4096x256 .f32) (P : ℕ → FVec Ideal S512x256 .f32) (r : ℕ) (hr : r < 512) (b : Fin 8) (l : Fin 256) :
    loads v (fun q => stores P (min (q + 2) 8)) r (ix2 b l) = P (r / 64) (ix2 (⟨8 * (r % 64) + b.val, by omega⟩ : Fin 512) l) := by
  unfold loads
  rw [View.readCov_eq_canon']
  show View.canon (stores P (min (r / 64 + 2) 8)) ((rowsOf r).emb (ix2 b l)) = _
  have e0 : ((rowsOf r).emb (ix2 b l) 0).val = 8 * (r % 512) + b.val := rowsOf_emb0 r (ix2 b l)
  have e1 : ((rowsOf r).emb (ix2 b l) 1).val = l.val := rowsOf_emb1 r (ix2 b l)
  have q : ((rowsOf r).emb (ix2 b l) 0).val / 512 = r / 64 := by rw [e0]; omega
  rw [stores_at P _ (Nat.min_le_right _ _) _ (by rw [q]; omega), q]
  refine congrArg (P (r / 64)) (funext fun a => ?_)
  match a with
  | ⟨0, _⟩ => exact Fin.ext (by show ((rowsOf r).emb (ix2 b l) 0).val % 512 = 8 * (r % 64) + b.val; rw [e0]; omega)
  | ⟨1, _⟩ => exact Fin.ext (by show ((rowsOf r).emb (ix2 b l) 1).val = l.val; rw [e1])

section
variable (x0 : Vec Ideal S4096x256 .bf16) (x1 : Vec Ideal S1x1x256x512 .bf16) (x2 : Vec Ideal S1x1x1x512 .f32) (x3 : Vec Ideal S1x1x256 .f32)

/-- The rows of chunk `k` of a block. -/
def rows512 (x : Vec Ideal S4096x256 .bf16) (k : ℕ) : Vec Ideal S512x256 .bf16 := fun j => x ((chunkOf k).emb j)

/-- One step's coefficient at one entry, from the blocks. -/
def stepOf (f : Vec Ideal S512x256 .bf16 → Vec Ideal S1x1x256x512 .bf16 → Vec Ideal S1x1x1x512 .f32 → Vec Ideal S1x1x256 .f32 → FVec Ideal S512x256 .f32)
    (b : Fin 8) (l : Fin 256) (r : ℕ) : EReal := f (rows512 x0 (r / 64)) x1 x2 x3 (ix2 (⟨8 * (r % 64) + b.val, by omega⟩ : Fin 512) l)

variable (arg2 : Memref sig .tc .vmem S4096x256 .bf16) (harg2 : arg2.IsWhole) (arg3 : Memref sig .tc .vmem S1x1x256x512 .bf16) (harg3 : arg3.IsWhole) (arg4 : Memref sig .tc .vmem S1x1x1x512 .f32) (harg4 : arg4.IsWhole) (arg5 : Memref sig .tc .vmem S1x1x256 .f32) (harg5 : arg5.IsWhole)

theorem zeros4 : (![0, 0, 0, 0] : Fin 4 → Nat) = fun _ => 0 := by funext a; fin_cases a <;> rfl
theorem zeros3 : (![0, 0, 0] : Fin 3 → Nat) = fun _ => 0 := by funext a; fin_cases a <;> rfl
theorem zeros2 : (![0, 0] : Fin 2 → Nat) = fun _ => 0 := by funext a; fin_cases a <;> rfl

/-- The body's reads are the blocks. -/
theorem read4_eq (f : Vec Ideal S512x256 .bf16 → Vec Ideal S1x1x256x512 .bf16 → Vec Ideal S1x1x1x512 .f32 → Vec Ideal S1x1x256 .f32 → FVec Ideal S512x256 .f32)
    (k : ℕ) : read4 x0 x1 x2 x3 arg2 harg2 arg3 harg3 arg4 harg4 arg5 harg5 f k = f (rows512 x0 k) x1 x2 x3 := by
  unfold read4
  rw [View.readAt_eq_ld, View.readAt_eq_ld, View.readAt_eq_ld, View.readAt_eq_ld, harg2.read_unread, harg3.read_unread, harg4.read_unread, harg5.read_unread,
    View.ld_unit_zero (S := S1x1x256x512) zeros4, View.ld_unit_zero (S := S1x1x1x512) zeros4, View.ld_unit_zero (S := S1x1x256) zeros3]
  rfl

theorem loads_step (v : View sig .tc .vmem S4096x256 .f32)
    (f : Vec Ideal S512x256 .bf16 → Vec Ideal S1x1x256x512 .bf16 → Vec Ideal S1x1x1x512 .f32 → Vec Ideal S1x1x256 .f32 → FVec Ideal S512x256 .f32)
    (r : ℕ) (hr : r < 512) (b : Fin 8) (l : Fin 256) :
    loads v (fun q => stores (read4 x0 x1 x2 x3 arg2 harg2 arg3 harg3 arg4 harg4 arg5 harg5 f) (min (q + 2) 8)) r (ix2 b l)
      = stepOf x0 x1 x2 x3 f b l r := by
  rw [loads_at v _ r hr b l, read4_eq]
  rfl

/-- The recurrence of a chunk at one entry. -/
def chunkLin (h : EReal) (b : Fin 8) (l : Fin 256) (n : ℕ) : EReal :=
  lin (stepOf x0 x1 x2 x3 coefA b l) (stepOf x0 x1 x2 x3 coefB b l) h n

/-- The body's state after `n` of its steps, at one entry. -/
theorem state_chunk (v w : View sig .tc .vmem S4096x256 .f32) (h : FVec Ideal S8x256 .f32) (n : ℕ) (hn : n ≤ 512) (b : Fin 8) (l : Fin 256) :
    state (loads v (fun q => stores (read4 x0 x1 x2 x3 arg2 harg2 arg3 harg3 arg4 harg4 arg5 harg5 coefA) (min (q + 2) 8)))
      (loads w (fun q => stores (read4 x0 x1 x2 x3 arg2 harg2 arg3 harg3 arg4 harg4 arg5 harg5 coefB) (min (q + 2) 8))) h n (ix2 b l)
      = chunkLin x0 x1 x2 x3 (h (ix2 b l)) b l n := by
  rw [state_at]
  exact lin_congr _ _ _ _ _ _ n rfl (fun k hk => loads_step x0 x1 x2 x3 arg2 harg2 arg3 harg3 arg4 harg4 arg5 harg5 v coefA k (by omega) b l)
    (fun k hk => loads_step x0 x1 x2 x3 arg2 harg2 arg3 harg3 arg4 harg4 arg5 harg5 w coefB k (by omega) b l)

end

end Cert.Proof.Rglru

end
-- ==== Proof.Rglru.Bodies.lean ====
/- Hand-written: what one grid point leaves in its two outputs and in the carried state. -/
module

public import proofs.«01_k».proof.Proof.Rglru.CaseA
public import proofs.«01_k».proof.Proof.Rglru.CaseB
public import proofs.«01_k».proof.Proof.Rglru.Chunk

@[expose] public section

set_option maxRecDepth 1000000

noncomputable section

namespace Cert.Proof.Rglru

open Idealize.ShloMosaic Idealize.ShloMosaic.Pointwise Idealize.ShloMosaic.TcCoe Idealize.SL.Sem
open Cert.KernelIdeal Cert.KernelIdeal.Gen

theorem pay5_eq (x : Vec Ideal S8x256 .f32) : k0_pay5 (F := Ideal) x = x := shapeCast_self x _

section
variable (c : Dev nD) (i : grid0.Coords) (arg2 : Memref sig .tc .vmem S4096x256 .bf16) (harg2 : arg2.IsWhole) (arg3 : Memref sig .tc .vmem S1x1x256x512 .bf16) (harg3 : arg3.IsWhole) (arg4 : Memref sig .tc .vmem S1x1x1x512 .f32) (harg4 : arg4.IsWhole) (arg5 : Memref sig .tc .vmem S1x1x256 .f32) (harg5 : arg5.IsWhole) (arg6 : Memref sig .tc .vmem S8x256 .f32) (harg6 : arg6.IsWhole) (arg7 : Memref sig .tc .vmem S4096x256 .f32) (harg7 : arg7.IsWhole) (arg8 : Memref sig .tc .vmem S8x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S8x256 .f32) (harg11 : arg11.IsWhole) (hc0 : cond0_0 i)
    (x0 : Vec Ideal S4096x256 .bf16) (x1 : Vec Ideal S1x1x256x512 .bf16) (x2 : Vec Ideal S1x1x1x512 .f32) (x3 : Vec Ideal S1x1x256 .f32) (x4 : Vec Ideal S8x256 .f32)

theorem init_A : (View.readCov (Val := Elt Ideal) arg11.view [⟨stateRect, k0_pay5 (View.readAt (Elt Ideal) arg6.view stateRect.toLoadRect (harg6.unread x4))⟩] stateRect.toLoadRect) = x4 := by
  refine (View.readCov_unit_zero (Val := Elt Ideal) (S := S8x256) arg11.view zeros2 inb_S8x256_S8x256_0_0 _).trans ((pay5_eq _).trans ?_)
  show View.ld (View.read (Elt Ideal) arg6.view (harg6.unread x4)) stateRect = x4
  rw [harg6.read_unread]
  exact View.ld_unit_zero zeros2 inb_S8x256_S8x256_0_0 x4

theorem state_A (n : ℕ) (hn : n ≤ 512) (b : Fin 8) (l : Fin 256) :
    state (loads arg9.view (listA_A c arg2 harg2 arg3 harg3 arg4 harg4 arg5 harg5 x0 x1 x2 x3)) (loads arg10.view (listB_A c arg2 harg2 arg3 harg3 arg4 harg4 arg5 harg5 x0 x1 x2 x3)) (View.readCov (Val := Elt Ideal) arg11.view [⟨stateRect, k0_pay5 (View.readAt (Elt Ideal) arg6.view stateRect.toLoadRect (harg6.unread x4))⟩] stateRect.toLoadRect) n (ix2 b l)
      = chunkLin x0 x1 x2 x3 (x4 (ix2 b l)) b l n := by
  rw [init_A, listA_A_eq, listB_A_eq]
  exact state_chunk x0 x1 x2 x3 arg2 harg2 arg3 harg3 arg4 harg4 arg5 harg5 arg9.view arg10.view x4 n hn b l

theorem out5_A (y : S4096x256.Idx) : out0_A_5 (F := Ideal) c i arg2 harg2 arg3 harg3 arg4 harg4 arg5 harg5 arg6 harg6 arg7 harg7 arg8 harg8 arg9 harg9 arg10 harg10 arg11 harg11 hc0 x0 x1 x2 x3 x4 y
    = chunkLin x0 x1 x2 x3 (x4 (inRows y)) (⟨(y 0).val % 8, Nat.mod_lt _ (by decide)⟩ : Fin 8) (⟨(y 1).val, (y 1).isLt⟩ : Fin 256) ((y 0).val / 8 + 1) := by
  unfold out0_A_5
  rw [View.read_writes_junk_eq_canon, (Prod.mk.inj (run_A c i arg2 harg2 arg3 harg3 arg4 harg4 arg5 harg5 arg6 harg6 arg7 harg7 arg8 harg8 arg9 harg9 arg10 harg10 arg11 harg11 hc0 x0 x1 x2 x3 x4)).1]
  refine (pieces_at _ _ _ _).trans ?_
  exact state_A (hn := (by have h := (y 0).isLt; have h' : (y 0).val < 4096 := h; omega)) ..

theorem out6_A (b : Fin 8) (l : Fin 256) : out0_A_6 (F := Ideal) c i arg2 harg2 arg3 harg3 arg4 harg4 arg5 harg5 arg6 harg6 arg7 harg7 arg8 harg8 arg9 harg9 arg10 harg10 arg11 harg11 hc0 x0 x1 x2 x3 x4 (ix2 b l)
    = chunkLin x0 x1 x2 x3 (x4 (ix2 b l)) b l 512 := by
  unfold out0_A_6
  rw [View.read_writes_junk_eq_canon, (Prod.mk.inj (Prod.mk.inj (run_A c i arg2 harg2 arg3 harg3 arg4 harg4 arg5 harg5 arg6 harg6 arg7 harg7 arg8 harg8 arg9 harg9 arg10 harg10 arg11 harg11 hc0 x0 x1 x2 x3 x4)).2).1]
  refine (congrFun (View.canon_unit_zero (S := S8x256) zeros2 inb_S8x256_S8x256_0_0 _) _).trans ?_
  exact state_A (hn := le_rfl) ..

theorem sout_A (b : Fin 8) (l : Fin 256) : sout0_A_2 (F := Ideal) c i arg2 harg2 arg3 harg3 arg4 harg4 arg5 harg5 arg6 harg6 arg7 harg7 arg8 harg8 arg9 harg9 arg10 harg10 arg11 harg11 hc0 x0 x1 x2 x3 x4 (ix2 b l)
    = chunkLin x0 x1 x2 x3 (x4 (ix2 b l)) b l 512 := by
  unfold sout0_A_2
  rw [View.read_writes_junk_eq_canon, (Prod.mk.inj (Prod.mk.inj (run_A c i arg2 harg2 arg3 harg3 arg4 harg4 arg5 harg5 arg6 harg6 arg7 harg7 arg8 harg8 arg9 harg9 arg10 harg10 arg11 harg11 hc0 x0 x1 x2 x3 x4)).2).2]
  refine ((congrFun (View.canon_cons_unit_zero (S := S8x256) zeros2 inb_S8x256_S8x256_0_0 _ _) _).trans (congrFun (shapeCast_self _ _) _)).trans ?_
  exact state_A (hn := le_rfl) ..

end

section
variable (c : Dev nD) (i : grid0.Coords) (arg2 : Memref sig .tc .vmem S4096x256 .bf16) (harg2 : arg2.IsWhole) (arg3 : Memref sig .tc .vmem S1x1x256x512 .bf16) (harg3 : arg3.IsWhole) (arg4 : Memref sig .tc .vmem S1x1x1x512 .f32) (harg4 : arg4.IsWhole) (arg5 : Memref sig .tc .vmem S1x1x256 .f32) (harg5 : arg5.IsWhole) (arg6 : Memref sig .tc .vmem S8x256 .f32) (harg6 : arg6.IsWhole) (arg7 : Memref sig .tc .vmem S4096x256 .f32) (harg7 : arg7.IsWhole) (arg8 : Memref sig .tc .vmem S8x256 .f32) (harg8 : arg8.IsWhole) (arg9 : Memref sig .tc .vmem S4096x256 .f32) (harg9 : arg9.IsWhole) (arg10 : Memref sig .tc .vmem S4096x256 .f32) (harg10 : arg10.IsWhole) (arg11 : Memref sig .tc .vmem S8x256 .f32) (harg11 : arg11.IsWhole) (hc0 : ¬cond0_0 i)
    (x0 : Vec Ideal S4096x256 .bf16) (x1 : Vec Ideal S1x1x256x512 .bf16) (x2 : Vec Ideal S1x1x1x512 .f32) (x3 : Vec Ideal S1x1x256 .f32) (x4 : Vec Ideal S8x256 .f32) (xs2 : Vec Ideal S8x256 .f32)

theorem init_B : (kernelRun0_B.sl.r c arg11 harg11 xs2) = xs2 := by
  show View.ld (View.read (Elt Ideal) arg11.view (harg11.unread xs2)) stateRect = xs2
  rw [harg11.read_unread]
  exact View.ld_unit_zero zeros2 inb_S8x256_S8x256_0_0 xs2

theorem state_B (n : ℕ) (hn : n ≤ 512) (b : Fin 8) (l : Fin 256) :
    state (loads arg9.view (listA_B c arg2 harg2 arg3 harg3 arg4 harg4 arg5 harg5 x0 x1 x2 x3)) (loads arg10.view (listB_B c arg2 harg2 arg3 harg3 arg4 harg4 arg5 harg5 x0 x1 x2 x3)) (kernelRun0_B.sl.r c arg11 harg11 xs2) n (ix2 b l)
      = chunkLin x0 x1 x2 x3 (xs2 (ix2 b l)) b l n := by
  rw [init_B, listA_B_eq, listB_B_eq]
  exact state_chunk x0 x1 x2 x3 arg2 harg2 arg3 harg3 arg4 harg4 arg5 harg5 arg9.view arg10.view xs2 n hn b l

theorem out5_B (y : S4096x256.Idx) : out0_B_5 (F := Ideal) c i arg2 harg2 arg3 harg3 arg4 harg4 arg5 harg5 arg6 harg6 arg7 harg7 arg8 harg8 arg9 harg9 arg10 harg10 arg11 harg11 hc0 x0 x1 x2 x3 x4 xs2 y
    = chunkLin x0 x1 x2 x3 (xs2 (inRows y)) (⟨(y 0).val % 8, Nat.mod_lt _ (by decide)⟩ : Fin 8) (⟨(y 1).val, (y 1).isLt⟩ : Fin 256) ((y 0).val / 8 + 1) := by
  unfold out0_B_5
  rw [View.read_writes_junk_eq_canon, (Prod.mk.inj (run_B c i arg2 harg2 arg3 harg3 arg4 harg4 arg5 harg5 arg6 harg6 arg7 harg7 arg8 harg8 arg9 harg9 arg10 harg10 arg11 harg11 hc0 x0 x1 x2 x3 x4 xs2)).1]
  refine (pieces_at _ _ _ _).trans ?_
  exact state_B (hn := (by have h := (y 0).isLt; have h' : (y 0).val < 4096 := h; omega)) ..

theorem out6_B (b : Fin 8) (l : Fin 256) : out0_B_6 (F := Ideal) c i arg2 harg2 arg3 harg3 arg4 harg4 arg5 harg5 arg6 harg6 arg7 harg7 arg8 harg8 arg9 harg9 arg10 harg10 arg11 harg11 hc0 x0 x1 x2 x3 x4 xs2 (ix2 b l)
    = chunkLin x0 x1 x2 x3 (xs2 (ix2 b l)) b l 512 := by
  unfold out0_B_6
  rw [View.read_writes_junk_eq_canon, (Prod.mk.inj (Prod.mk.inj (run_B c i arg2 harg2 arg3 harg3 arg4 harg4 arg5 harg5 arg6 harg6 arg7 harg7 arg8 harg8 arg9 harg9 arg10 harg10 arg11 harg11 hc0 x0 x1 x2 x3 x4 xs2)).2).1]
  refine (congrFun (View.canon_unit_zero (S := S8x256) zeros2 inb_S8x256_S8x256_0_0 _) _).trans ?_
  exact state_B (hn := le_rfl) ..

theorem sout_B (b : Fin 8) (l : Fin 256) : sout0_B_2 (F := Ideal) c i arg2 harg2 arg3 harg3 arg4 harg4 arg5 harg5 arg6 harg6 arg7 harg7 arg8 harg8 arg9 harg9 arg10 harg10 arg11 harg11 hc0 x0 x1 x2 x3 x4 xs2 (ix2 b l)
    = chunkLin x0 x1 x2 x3 (xs2 (ix2 b l)) b l 512 := by
  unfold sout0_B_2
  rw [View.read_writes_junk_eq_canon, (Prod.mk.inj (Prod.mk.inj (run_B c i arg2 harg2 arg3 harg3 arg4 harg4 arg5 harg5 arg6 harg6 arg7 harg7 arg8 harg8 arg9 harg9 arg10 harg10 arg11 harg11 hc0 x0 x1 x2 x3 x4 xs2)).2).2]
  refine ((congrFun (View.canon_cons_unit_zero (S := S8x256) zeros2 inb_S8x256_S8x256_0_0 _ _) _).trans (congrFun (shapeCast_self _ _) _)).trans ?_
  exact state_B (hn := le_rfl) ..

end

end Cert.Proof.Rglru

end
-- ==== Proof.Rglru.Host.lean ====
/- Hand-written: what the host hands the forward recurrence. -/
module

public import proofs.«01_k».proof.Proof.Gen.KernelIdeal.Value
public import proofs.«01_k».proof.Proof.Scalar
public import Idealize.ShloMosaic.Lib.Pointwise
public import Idealize.ShloMosaic.Lib.Tactic.CleanTypes

@[expose] public section

set_option maxRecDepth 16384

noncomputable section

namespace Cert.Proof.Rglru

open Idealize.ShloMosaic Idealize.ShloMosaic.Pointwise Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The arguments, as arrays of extended reals. -/
abbrev argU (d : Dev nD) : FVec Ideal S8x4096x1024 .f32 := m ((d : Thread nD τ).loc main_arg0)
abbrev argWa (d : Dev nD) : FVec Ideal S2x16x64x64 .f32 := m ((d : Thread nD τ).loc main_arg1)
abbrev argBa (d : Dev nD) : FVec Ideal S2x1024 .f32 := m ((d : Thread nD τ).loc main_arg2)
abbrev argWx (d : Dev nD) : FVec Ideal S2x16x64x64 .f32 := m ((d : Thread nD τ).loc main_arg3)
abbrev argBx (d : Dev nD) : FVec Ideal S2x1024 .f32 := m ((d : Thread nD τ).loc main_arg4)
abbrev argLam (d : Dev nD) : FVec Ideal S2x1024 .f32 := m ((d : Thread nD τ).loc main_arg5)
abbrev argH (d : Dev nD) : FVec Ideal S8x1024 .f32 := m ((d : Thread nD τ).loc main_arg6)

theorem V_u (d : Dev nD) (i : Fin 32768) (l : Fin 1024) :
    (V m d main_v93 : FVec Ideal S32768x1024 .f32) (ix2 i l)
      = ((1 / 2 : ℝ) : EReal) * argU m d (ix3 (⟨i.val % 8, by omega⟩ : Fin 8) (⟨i.val / 8, by omega⟩ : Fin 4096) l) := by
  show (StableHlo.after hostOps0 (fun b => m (d, b)) main_v93 : FVec Ideal S32768x1024 .f32) (ix2 i l) = _
  after_results
  pointwise
  clean_types
  exact congrArg (· * (argU m d (ix3 (⟨i.val % 8, by omega⟩ : Fin 8) (⟨i.val / 8, by omega⟩ : Fin 4096) l) : EReal)) Scalar.lit_half

theorem V_lam (d : Dev nD) (l : Fin 1024) : (V m d main_v88 : FVec Ideal S2x1x1024 .f32) (ix3 (0 : Fin 2) (0 : Fin 1) l) = argLam m d (ix2 (0 : Fin 2) l) := by
  show (StableHlo.after hostOps0 (fun b => m (d, b)) main_v88 : FVec Ideal S2x1x1024 .f32) (ix3 (0 : Fin 2) (0 : Fin 1) l) = _
  after_results
  pointwise

theorem V_ba (d : Dev nD) (q : Fin 4) (l : Fin 256) :
    (V m d main_v87 : FVec Ideal S2x4x1x512 .f32) (ix4 (0 : Fin 2) q (0 : Fin 1) (⟨l.val, by omega⟩ : Fin 512))
      = ((1 / 2 : ℝ) : EReal) * argBa m d (ix2 (0 : Fin 2) (⟨q.val * 256 + l.val, by omega⟩ : Fin 1024)) := by
  show (StableHlo.after hostOps0 (fun b => m (d, b)) main_v87 : FVec Ideal S2x4x1x512 .f32) (ix4 (0 : Fin 2) q (0 : Fin 1) (⟨l.val, by omega⟩ : Fin 512)) = _
  after_results
  pointwise
  clean_types
  exact congrArg (· * (argBa m d (ix2 (0 : Fin 2) (⟨q.val * 256 + l.val, by omega⟩ : Fin 1024)) : EReal)) Scalar.lit_half

theorem V_bx (d : Dev nD) (q : Fin 4) (l : Fin 256) :
    (V m d main_v87 : FVec Ideal S2x4x1x512 .f32) (ix4 (0 : Fin 2) q (0 : Fin 1) (⟨256 + l.val, by omega⟩ : Fin 512))
      = ((1 / 2 : ℝ) : EReal) * argBx m d (ix2 (0 : Fin 2) (⟨q.val * 256 + l.val, by omega⟩ : Fin 1024)) := by
  show (StableHlo.after hostOps0 (fun b => m (d, b)) main_v87 : FVec Ideal S2x4x1x512 .f32) (ix4 (0 : Fin 2) q (0 : Fin 1) (⟨256 + l.val, by omega⟩ : Fin 512)) = _
  after_results
  pointwise
  clean_types
  exact congrArg (· * (argBx m d (ix2 (0 : Fin 2) (⟨q.val * 256 + l.val, by omega⟩ : Fin 1024)) : EReal)) Scalar.lit_half

end Cert.Proof.Rglru

end
-- ==== Proof.Rglru.HostW.lean ====
/- Hand-written: the block diagonal gate weights that the host builds for the forward recurrence. -/
module

public import proofs.«01_k».proof.Proof.Gen.KernelIdeal.Value
public import proofs.«01_k».proof.Proof.Rglru.Host
public import Idealize.ShloMosaic.Lib.Pointwise
public import Idealize.ShloMosaic.Lib.Tactic.CleanTypes

@[expose] public section

set_option maxRecDepth 16384

noncomputable section

namespace Cert.Proof.Rglru

open Idealize.ShloMosaic Idealize.ShloMosaic.Pointwise Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- An entry of the host's four by four identity. -/
theorem eye_eq (a b : ℕ) (ha : a < 4) (hb : b < 4) :
    (FloatOps.uitofp (F := Ideal) .f32 (IntOp.cmpi .eq (IntOp.addi (BitVec.ofNat 32 a) 0#32) (BitVec.ofNat 32 b)) : EReal) = if a = b then 1 else 0 := by
  have e : IntOp.cmpi .eq (IntOp.addi (BitVec.ofNat 32 a) 0#32) (BitVec.ofNat 32 b) = if a = b then 1#1 else 0#1 := by
    have := (by decide +kernel : ∀ a b : Fin 4, IntOp.cmpi .eq (IntOp.addi (BitVec.ofNat 32 a.val) 0#32) (BitVec.ofNat 32 b.val) = if a.val = b.val then 1#1 else 0#1)
    exact this ⟨a, ha⟩ ⟨b, hb⟩
  rw [e]
  split
  · show (((1#1 : BitVec 1).toNat : ℝ) : EReal) = 1
    simp
  · show (((0#1 : BitVec 1).toNat : ℝ) : EReal) = 0
    simp

theorem mul_choice (x : EReal) (p : Prop) [Decidable p] : x * (if p then 1 else 0) = if p then x else 0 := by
  split <;> simp

/-- A weight times an entry of the identity. -/
theorem eye_mul (x : EReal) (a b : ℕ) (ha : a < 4) (hb : b < 4) :
    (x * FloatOps.uitofp (F := Ideal) .f32 (IntOp.cmpi .eq (IntOp.addi (BitVec.ofNat 32 a) 0#32) (BitVec.ofNat 32 b)) : EReal) = if a = b then x else (0 : EReal) :=
  (congrArg (x * ·) (eye_eq a b ha hb)).trans (mul_choice x _)

/-- Two choices between a value and zero that agree. -/
theorem choice_eq (P Q : Prop) [Decidable P] [Decidable Q] (x y : EReal) (hPQ : P ↔ Q) (hxy : Q → x = y) :
    (if P then x else (0 : EReal)) = if Q then y else (0 : EReal) := by
  by_cases q : Q
  · rw [if_pos (hPQ.mpr q), if_pos q, hxy q]
  · rw [if_neg (fun h => q (hPQ.mp h)), if_neg q]

set_option maxHeartbeats 1000000 in
theorem V_wa (d : Dev nD) (q h g : Fin 4) (k j : Fin 64) :
    (V m d main_v84 : FVec Ideal S2x4x256x512 .f32) (ix4 (0 : Fin 2) q (⟨64 * h.val + k.val, by omega⟩ : Fin 256) (⟨64 * g.val + j.val, by omega⟩ : Fin 512))
      = if h = g then argWa m d (ix4 (0 : Fin 2) (⟨q.val * 4 + g.val, by omega⟩ : Fin 16) k j) else (0 : EReal) := by
  generalize hz : (if h = g then argWa m d (ix4 (0 : Fin 2) (⟨q.val * 4 + g.val, by omega⟩ : Fin 16) k j) else (0 : EReal)) = z
  show (StableHlo.after hostOps0 (fun b => m (d, b)) main_v84 : FVec Ideal S2x4x256x512 .f32)
    (ix4 (0 : Fin 2) q (⟨64 * h.val + k.val, by omega⟩ : Fin 256) (⟨64 * g.val + j.val, by omega⟩ : Fin 512)) = _
  after_results
  pointwise
  clean_types
  refine Eq.trans ?_ hz
  clear hz z
  have hc : 64 * g.val + j.val < 256 := by omega
  refine (dif_pos hc).trans ?_
  refine (eye_mul _ ((64 * h.val + k.val) / 64) ((64 * g.val + j.val) / 64) (by omega) (by omega)).trans ?_
  refine choice_eq _ _ _ _ ⟨fun h' => Fin.ext (by omega), fun h' => by subst h'; omega⟩ (fun h' => ?_)
  subst h'
  refine congrArg (argWa m d) (funext fun a => Fin.ext ?_)
  match a with
  | ⟨0, _⟩ => rfl
  | ⟨1, _⟩ => show q.val * 4 + (64 * h.val + k.val) / 64 = q.val * 4 + h.val; omega
  | ⟨2, _⟩ => show (64 * h.val + k.val) % 64 = k.val; omega
  | ⟨3, _⟩ => show (64 * h.val + j.val) % 64 = j.val; omega

set_option maxHeartbeats 1000000 in
theorem V_wx (d : Dev nD) (q h g : Fin 4) (k j : Fin 64) :
    (V m d main_v84 : FVec Ideal S2x4x256x512 .f32) (ix4 (0 : Fin 2) q (⟨64 * h.val + k.val, by omega⟩ : Fin 256) (⟨256 + (64 * g.val + j.val), by omega⟩ : Fin 512))
      = if h = g then argWx m d (ix4 (0 : Fin 2) (⟨q.val * 4 + g.val, by omega⟩ : Fin 16) k j) else (0 : EReal) := by
  generalize hz : (if h = g then argWx m d (ix4 (0 : Fin 2) (⟨q.val * 4 + g.val, by omega⟩ : Fin 16) k j) else (0 : EReal)) = z
  show (StableHlo.after hostOps0 (fun b => m (d, b)) main_v84 : FVec Ideal S2x4x256x512 .f32)
    (ix4 (0 : Fin 2) q (⟨64 * h.val + k.val, by omega⟩ : Fin 256) (⟨256 + (64 * g.val + j.val), by omega⟩ : Fin 512)) = _
  after_results
  pointwise
  clean_types
  refine Eq.trans ?_ hz
  clear hz z
  refine (eye_mul _ ((64 * h.val + k.val) / 64) ((64 * g.val + j.val) / 64) (by omega) (by omega)).trans ?_
  refine choice_eq _ _ _ _ ⟨fun h' => Fin.ext (by omega), fun h' => by subst h'; omega⟩ (fun h' => ?_)
  subst h'
  refine congrArg (argWx m d) (funext fun a => Fin.ext ?_)
  match a with
  | ⟨0, _⟩ => rfl
  | ⟨1, _⟩ => show q.val * 4 + (64 * h.val + k.val) / 64 = q.val * 4 + h.val; omega
  | ⟨2, _⟩ => show (64 * h.val + k.val) % 64 = k.val; omega
  | ⟨3, _⟩ => show (64 * h.val + j.val) % 64 = j.val; omega

end Cert.Proof.Rglru

end
-- ==== Proof.Rglru.Blocks.lean ====
/- Hand-written: the blocks of the inputs that a grid point of the forward recurrence sees. -/
module

public import proofs.«01_k».proof.Proof.Gen.KernelIdeal.Value
public import proofs.«01_k».proof.Proof.Rglru.Host
public import Idealize.ShloMosaic.Lib.Pointwise
public import Idealize.ShloMosaic.Lib.Tactic.CleanTypes

@[expose] public section

set_option maxRecDepth 16384

noncomputable section

namespace Cert.Proof.Rglru

open Idealize.ShloMosaic Idealize.ShloMosaic.Pointwise Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-! ## The windows' blocks -/

/-- The grid is 4 lane tiles by 8 chunks of time: where each input's block lies at a point. -/
theorem idx_in : ∀ t : Fin cfg0.N,
    (win0_0.index t 0 = t.val % 8 ∧ win0_0.index t 1 = t.val / 8)
    ∧ (win0_1.index t 0 = 0 ∧ win0_1.index t 1 = t.val / 8 ∧ win0_1.index t 2 = 0 ∧ win0_1.index t 3 = 0)
    ∧ (win0_2.index t 0 = 0 ∧ win0_2.index t 1 = t.val / 8 ∧ win0_2.index t 2 = 0 ∧ win0_2.index t 3 = 0)
    ∧ (win0_3.index t 0 = 0 ∧ win0_3.index t 1 = 0 ∧ win0_3.index t 2 = t.val / 8)
    ∧ (win0_4.index t 0 = 0 ∧ win0_4.index t 1 = t.val / 8) :=
  (by decide +kernel : ∀ t : Fin grid0.N, _)

theorem t_lt (t : Fin cfg0.N) : t.val < 32 := lt_of_lt_of_eq t.isLt N_0

/-- A point's lane tile, and its lanes among all lanes. -/
def tile (t : Fin cfg0.N) : Fin 4 := ⟨t.val / 8, by have := t_lt t; omega⟩
def lane (t : Fin cfg0.N) (l : Fin 256) : Fin 1024 := ⟨256 * (t.val / 8) + l.val, by have := t_lt t; omega⟩

theorem blk_u (d : Dev nD) (t : Fin cfg0.N) (r : Fin 4096) (l : Fin 256) :
    (iblk m d 0 t : FVec Ideal S4096x256 .f32) (ix2 r l)
      = ((1 / 2 : ℝ) : EReal) * argU m d (ix3 (⟨r.val % 8, by omega⟩ : Fin 8) (⟨512 * (t.val % 8) + r.val / 8, by omega⟩ : Fin 4096) (lane t l)) := by
  obtain ⟨e0, e1⟩ := (idx_in t).1
  have h := t_lt t
  have e := V_u m d (⟨4096 * (t.val % 8) + r.val, by omega⟩ : Fin 32768) (lane t l)
  refine (?_ : (_ : EReal) = _).trans (e.trans ?_)
  · refine congrArg (V m d main_v93) (funext fun a => Fin.ext ?_)
    match a with
    | ⟨0, _⟩ => show win0_0.index t 0 * 4096 + 1 * r.val = 4096 * (t.val % 8) + r.val; omega
    | ⟨1, _⟩ => show win0_0.index t 1 * 256 + 1 * l.val = 256 * (t.val / 8) + l.val; omega
  · refine congrArg (fun x => ((1 / 2 : ℝ) : EReal) * argU m d x) (funext fun a => Fin.ext ?_)
    match a with
    | ⟨0, _⟩ => show (4096 * (t.val % 8) + r.val) % 8 = r.val % 8; omega
    | ⟨1, _⟩ => show (4096 * (t.val % 8) + r.val) / 8 = 512 * (t.val % 8) + r.val / 8; omega
    | ⟨2, _⟩ => rfl

theorem blk_w (d : Dev nD) (t : Fin cfg0.N) (x : Fin 256) (l : Fin 512) :
    (iblk m d 1 t : FVec Ideal S1x1x256x512 .f32) (ix4 (0 : Fin 1) (0 : Fin 1) x l) = (V m d main_v84 : FVec Ideal S2x4x256x512 .f32) (ix4 (0 : Fin 2) (tile t) x l) := by
  obtain ⟨e0, e1, e2, e3⟩ := (idx_in t).2.1
  refine congrArg (V m d main_v84) (funext fun a => Fin.ext ?_)
  match a with
  | ⟨0, _⟩ => show win0_1.index t 0 * 1 + 1 * 0 = 0; omega
  | ⟨1, _⟩ => show win0_1.index t 1 * 1 + 1 * 0 = t.val / 8; omega
  | ⟨2, _⟩ => show win0_1.index t 2 * 256 + 1 * x.val = x.val; omega
  | ⟨3, _⟩ => show win0_1.index t 3 * 512 + 1 * l.val = l.val; omega

theorem blk_b (d : Dev nD) (t : Fin cfg0.N) (l : Fin 512) :
    (iblk m d 2 t : FVec Ideal S1x1x1x512 .f32) (ix4 (0 : Fin 1) (0 : Fin 1) (0 : Fin 1) l)
      = (V m d main_v87 : FVec Ideal S2x4x1x512 .f32) (ix4 (0 : Fin 2) (tile t) (0 : Fin 1) l) := by
  obtain ⟨e0, e1, e2, e3⟩ := (idx_in t).2.2.1
  refine congrArg (V m d main_v87) (funext fun a => Fin.ext ?_)
  match a with
  | ⟨0, _⟩ => show win0_2.index t 0 * 1 + 1 * 0 = 0; omega
  | ⟨1, _⟩ => show win0_2.index t 1 * 1 + 1 * 0 = t.val / 8; omega
  | ⟨2, _⟩ => show win0_2.index t 2 * 1 + 1 * 0 = 0; omega
  | ⟨3, _⟩ => show win0_2.index t 3 * 512 + 1 * l.val = l.val; omega

theorem blk_lam (d : Dev nD) (t : Fin cfg0.N) (l : Fin 256) :
    (iblk m d 3 t : FVec Ideal S1x1x256 .f32) (ix3 (0 : Fin 1) (0 : Fin 1) l) = argLam m d (ix2 (0 : Fin 2) (lane t l)) := by
  obtain ⟨e0, e1, e2⟩ := (idx_in t).2.2.2.1
  refine (?_ : (_ : EReal) = _).trans (V_lam m d (lane t l))
  refine congrArg (V m d main_v88) (funext fun a => Fin.ext ?_)
  match a with
  | ⟨0, _⟩ => show win0_3.index t 0 * 1 + 1 * 0 = 0; omega
  | ⟨1, _⟩ => show win0_3.index t 1 * 1 + 1 * 0 = 0; omega
  | ⟨2, _⟩ => show win0_3.index t 2 * 256 + 1 * l.val = 256 * (t.val / 8) + l.val; omega

theorem blk_h (d : Dev nD) (t : Fin cfg0.N) (b : Fin 8) (l : Fin 256) :
    (iblk m d 4 t : FVec Ideal S8x256 .f32) (ix2 b l) = argH m d (ix2 b (lane t l)) := by
  obtain ⟨e0, e1⟩ := (idx_in t).2.2.2.2
  refine (?_ : (_ : EReal) = (V m d main_arg6 : FVec Ideal S8x1024 .f32) (ix2 b (lane t l))).trans (congrFun (V_main_arg6 m d) _)
  refine congrArg (V m d main_arg6) (funext fun a => Fin.ext ?_)
  match a with
  | ⟨0, _⟩ => show win0_4.index t 0 * 8 + 1 * b.val = b.val; omega
  | ⟨1, _⟩ => show win0_4.index t 1 * 256 + 1 * l.val = 256 * (t.val / 8) + l.val; omega

end Cert.Proof.Rglru

end
-- ==== Proof.Rglru.Coef.lean ====
/- Hand-written: the coefficients of one step. The kernel's tanh forms are the logistic forms of the reference wherever the decay
   parameter is above −∞. -/
module

public import proofs.«01_k».proof.Proof.Scalar
public import Idealize.ShloMosaic.Lib.Pointwise

@[expose] public section

noncomputable section

namespace Cert.Proof.Rglru

open Idealize.ShloMosaic

/-- The softplus of the negated decay parameter. -/
def soft (lam : EReal) : EReal := max (-lam) 0 + Ideal.log1p (Ideal.exp (-(max (-lam) (- -lam))))

/-- The logarithm of the decay. -/
def logDecay (z lam : EReal) : EReal := ((-8 : ℝ) : EReal) * Ideal.logistic z * soft lam

/-- The weight of the new input that keeps the state's variance. -/
def weight (z lam : EReal) : EReal := Ideal.sqrt (-(Ideal.exp (((2 : ℝ) : EReal) * logDecay z lam) - 1))

/-- A number plus its negative's logarithmic correction is a nonnegative real, unless the number is +∞. -/
theorem soft_real (lam : EReal) (h : lam ≠ ⊥) : ∃ s : ℝ, 0 ≤ s ∧ soft lam = s := by
  induction lam using EReal.rec with
  | bot => exact absurd rfl h
  | top =>
    refine ⟨0, le_rfl, ?_⟩
    have e : max (-(⊤ : EReal)) (- -⊤) = ⊤ := by simp
    unfold soft
    rw [e]
    show max (⊥ : EReal) 0 + Ideal.log1p 0 = _
    unfold Ideal.log1p
    rw [add_zero, ← EReal.coe_one]
    show max (⊥ : EReal) 0 + (if (1 : ℝ) ≤ 0 then ⊥ else (Real.log 1 : EReal)) = _
    rw [if_neg (by norm_num)]
    simp
  | coe x =>
    have e : max (-(x : EReal)) (- -(x : EReal)) = ((max (-x) x : ℝ) : EReal) := by
      rw [neg_neg, EReal.coe_strictMono.monotone.map_max, EReal.coe_neg]
    have e' : max (-(x : EReal)) 0 = ((max (-x) 0 : ℝ) : EReal) := by
      rw [EReal.coe_strictMono.monotone.map_max, EReal.coe_neg, EReal.coe_zero]
    have hp := Real.exp_pos (-(max (-x) x))
    refine ⟨max (-x) 0 + Real.log (1 + Real.exp (-(max (-x) x))), ?_, ?_⟩
    · have h1 : 0 ≤ max (-x) 0 := le_max_right _ _
      have h2 : 0 ≤ Real.log (1 + Real.exp (-(max (-x) x))) := Real.log_nonneg (by linarith)
      linarith
    · unfold soft
      rw [e, e', ← EReal.coe_neg]
      show ((max (-x) 0 : ℝ) : EReal) + Ideal.log1p (Real.exp (-(max (-x) x)) : EReal) = _
      unfold Ideal.log1p
      rw [← EReal.coe_one, ← EReal.coe_add]
      show ((max (-x) 0 : ℝ) : EReal) + (if 1 + Real.exp (-(max (-x) x)) ≤ 0 then ⊥ else (Real.log (1 + Real.exp (-(max (-x) x))) : EReal)) = _
      rw [if_neg (by linarith), ← EReal.coe_add]

/-- The hyperbolic tangent is a real number at every extended real. -/
theorem tanh_real (g : EReal) : ∃ t : ℝ, -1 ≤ t ∧ Ideal.tanh g = t := by
  induction g using EReal.rec with
  | bot => exact ⟨-1, le_rfl, rfl⟩
  | top => exact ⟨1, by norm_num, rfl⟩
  | coe x => exact ⟨Real.tanh x, (Real.neg_one_lt_tanh x).le, rfl⟩

/-- The kernel's logarithm of the decay, from half the gate's argument. -/
theorem log_decay_eq (z lam : EReal) (h : lam ≠ ⊥) :
    (((-4 : ℝ) : EReal) * soft lam) * Ideal.tanh (((1 / 2 : ℝ) : EReal) * z) + ((-4 : ℝ) : EReal) * soft lam = logDecay z lam := by
  obtain ⟨s, -, hs⟩ := soft_real lam h
  obtain ⟨t, -, ht⟩ := tanh_real (((1 / 2 : ℝ) : EReal) * z)
  unfold logDecay
  rw [← Scalar.logistic_eq_tanh z, hs, ht]
  simp only [← EReal.coe_mul, ← EReal.coe_add]
  congr 1
  ring

/-- The logarithm of the decay is a real number that is not positive. -/
theorem log_decay_real (z lam : EReal) (h : lam ≠ ⊥) : ∃ l : ℝ, l ≤ 0 ∧ logDecay z lam = l := by
  obtain ⟨s, s0, hs⟩ := soft_real lam h
  obtain ⟨t, t0, ht⟩ := tanh_real (((1 / 2 : ℝ) : EReal) * z)
  rw [← log_decay_eq z lam h, hs, ht]
  refine ⟨-4 * s * t + -4 * s, ?_, by simp only [← EReal.coe_mul, ← EReal.coe_add]⟩
  nlinarith

/-- For real numbers: `tanh l · (e^l · e^l + 1) = e^l · e^l − 1`. -/
theorem real_tanh_mul (l : ℝ) : (0 - Real.tanh l) * (Real.exp l * Real.exp l + 1) = 1 - Real.exp (2 * l) := by
  have h2 : Real.exp (2 * l) = Real.exp l * Real.exp l := by rw [← Real.exp_add]; congr 1; ring
  have h1 : Real.exp l * Real.exp (-l) = 1 := by rw [← Real.exp_add, add_neg_cancel, Real.exp_zero]
  have hp := Real.exp_pos l
  have hq := Real.exp_pos (-l)
  rw [h2, Real.tanh_eq_sinh_div_cosh, Real.sinh_eq, Real.cosh_eq]
  generalize Real.exp l = p at *
  generalize Real.exp (-l) = q at *
  have hpq : p + q ≠ 0 := by positivity
  field_simp
  linear_combination (2 * p) * h1

/-- The kernel's weight: a guarded product with the reciprocal square root. -/
theorem weight_eq (L z lam : EReal) (h : lam ≠ ⊥) (hL : L = logDecay z lam) :
    (if 0 < (0 - Ideal.tanh L) * (Ideal.exp L * Ideal.exp L + 1) then
      (0 - Ideal.tanh L) * (Ideal.exp L * Ideal.exp L + 1) * Ideal.rsqrt ((0 - Ideal.tanh L) * (Ideal.exp L * Ideal.exp L + 1)) else 0)
      = weight z lam := by
  obtain ⟨l, l0, hl⟩ := log_decay_real z lam h
  unfold weight
  rw [hL, hl]
  have e : ((0 : EReal) - Ideal.tanh (l : EReal)) * (Ideal.exp (l : EReal) * Ideal.exp (l : EReal) + 1) = ((1 - Real.exp (2 * l) : ℝ) : EReal) := by
    show ((0 : EReal) - (Real.tanh l : EReal)) * ((Real.exp l : EReal) * (Real.exp l : EReal) + 1) = _
    rw [← real_tanh_mul]
    simp only [EReal.coe_mul, EReal.coe_add, EReal.coe_sub, EReal.coe_one, EReal.coe_zero]
  have e2 : -(Ideal.exp (((2 : ℝ) : EReal) * (l : EReal)) - 1) = ((1 - Real.exp (2 * l) : ℝ) : EReal) := by
    rw [← EReal.coe_mul]
    show -((Real.exp (2 * l) : EReal) - 1) = _
    rw [← EReal.coe_one, ← EReal.coe_sub, ← EReal.coe_neg]
    congr 1
    ring
  rw [e, e2]
  have hx : 0 ≤ 1 - Real.exp (2 * l) := by
    have := Real.exp_le_one_iff.mpr (by linarith : 2 * l ≤ 0)
    linarith
  generalize 1 - Real.exp (2 * l) = x at hx
  show _ = if x < 0 then ⊥ else (Real.sqrt x : EReal)
  rw [if_neg (not_lt.mpr hx)]
  by_cases h0 : 0 < x
  · rw [if_pos (by exact_mod_cast h0)]
    show (x : EReal) * (if x < 0 then ⊥ else if x = 0 then ⊤ else (((Real.sqrt x)⁻¹ : ℝ) : EReal)) = _
    rw [if_neg (not_lt.mpr hx), if_neg h0.ne', ← EReal.coe_mul]
    congr 1
    rw [← div_eq_mul_inv, Real.div_sqrt]
  · have : x = 0 := le_antisymm (not_lt.mp h0) hx
    subst this
    simp

/-- The kernel's gated input, from half the gate's argument and half the input. -/
theorem gated_eq (z u : EReal) :
    (Ideal.tanh (((1 / 2 : ℝ) : EReal) * z) + 1) * (((1 / 2 : ℝ) : EReal) * u) = Ideal.logistic z * u := by
  obtain ⟨t, -, ht⟩ := tanh_real (((1 / 2 : ℝ) : EReal) * z)
  rw [← Scalar.logistic_eq_tanh z, ht, ← mul_assoc]
  congr 1
  rw [← EReal.coe_one]
  simp only [← EReal.coe_mul, ← EReal.coe_add]
  congr 1
  ring

end Cert.Proof.Rglru

end
-- ==== Proof.Rglru.KerCoef.lean ====
/- Hand-written: the kernel's coefficients, entry by entry. -/
module

public import proofs.«01_k».proof.Proof.Rglru.Coef
public import proofs.«01_k».proof.Proof.Rglru.Steps
public import Idealize.ShloMosaic.Lib.Pointwise
public import Idealize.ShloMosaic.Lib.Tactic.CleanTypes

@[expose] public section

set_option maxRecDepth 16384

noncomputable section

namespace Cert.Proof.Rglru

open Idealize.ShloMosaic Idealize.ShloMosaic.Pointwise Idealize.ShloMosaic.TcCoe Idealize.SL.Sem
open Cert.KernelIdeal Cert.KernelIdeal.Gen

/-- A sum over 256 lanes whose weights are zero off one head is the sum over that head. -/
theorem sum_head (f : Fin 256 → EReal) (g : Fin 4) (hf : ∀ (h : Fin 4) (k : Fin 64), h ≠ g → f ⟨64 * h.val + k.val, by omega⟩ = 0) :
    ∑ x, f x = ∑ k : Fin 64, f ⟨64 * g.val + k.val, by omega⟩ := by
  have e : ∑ x, f x = ∑ p : Fin 4 × Fin 64, f ⟨64 * p.1.val + p.2.val, by omega⟩ :=
    (Fintype.sum_equiv (finProdFinEquiv (m := 4) (n := 64)) (fun p : Fin 4 × Fin 64 => f ⟨64 * p.1.val + p.2.val, by omega⟩) f
      (fun p => congrArg f (Fin.ext (by show 64 * p.1.val + p.2.val = p.2.val + 64 * p.1.val; omega)))).symm
  rw [e, Fintype.sum_prod_type]
  refine Finset.sum_eq_single g (fun h _ hn => ?_) (fun hn => absurd (Finset.mem_univ g) hn)
  exact Finset.sum_eq_zero fun k _ => hf h k hn

/-- The kernel's halved gate argument: its block of gate weights holds one head's weights in that head's rows and zeros elsewhere. -/
theorem half_arg (u w u0 : Fin 256 → EReal) (W : Fin 64 → EReal) (b bias : EReal) (g : Fin 4) (hu : ∀ x, u x = ((1 / 2 : ℝ) : EReal) * u0 x)
    (hw : ∀ (h : Fin 4) (k : Fin 64), w ⟨64 * h.val + k.val, by omega⟩ = if h = g then W k else 0) (hb : b = ((1 / 2 : ℝ) : EReal) * bias) :
    (∑ x, u x * w x) + b = ((1 / 2 : ℝ) : EReal) * ((∑ k : Fin 64, W k * u0 ⟨64 * g.val + k.val, by omega⟩) + bias) := by
  rw [sum_head (fun x => u x * w x) g (fun h k hn => by show u _ * w _ = 0; rw [hw h k, if_neg hn, mul_zero]),
    Scalar.mul_add_of_nonneg _ (by norm_num), Scalar.mul_sum_of_nonneg _ _ (by norm_num), hb]
  refine congrArg (· + _) (Finset.sum_congr rfl fun k _ => ?_)
  show u _ * w _ = _
  rw [hw g k, if_pos rfl, hu, mul_assoc, mul_comm (W k)]

variable (u : Vec Ideal S512x256 .bf16) (w : Vec Ideal S1x1x256x512 .bf16) (b : Vec Ideal S1x1x1x512 .f32) (lam : Vec Ideal S1x1x256 .f32)
  (r : Fin 512) (l : Fin 256)

theorem coefA_at (z : EReal) (hl : lam (ix3 (0 : Fin 1) (0 : Fin 1) l) ≠ ⊥)
    (hz : (∑ x : Fin 256, u (ix2 r x) * w (ix4 (0 : Fin 1) (0 : Fin 1) x (⟨l.val, by omega⟩ : Fin 512))) + b (ix4 (0 : Fin 1) (0 : Fin 1) (0 : Fin 1) (⟨l.val, by omega⟩ : Fin 512))
      = ((1 / 2 : ℝ) : EReal) * z) :
    coefA u w b lam (ix2 r l) = Ideal.exp (logDecay z (lam (ix3 (0 : Fin 1) (0 : Fin 1) l))) := by
  pointwise [coefA, k0_pay12, k0_pay11, k0_pay10, k0_pay9, k0_pay8, k0_pay7, k0_pay6]
  clean_types
  rw [if_neg (by simp)]
  simp only [Scalar.lit_neg_four, zero_sub]
  rw [← log_decay_eq z _ hl]
  refine congrArg Ideal.exp ?_
  refine congrArg₂ (· + ·) (congrArg₂ (· * ·) rfl (congrArg Ideal.tanh ?_)) rfl
  exact hz

theorem coefB_at (z zi u0 : EReal) (hl : lam (ix3 (0 : Fin 1) (0 : Fin 1) l) ≠ ⊥)
    (hz : (∑ x : Fin 256, u (ix2 r x) * w (ix4 (0 : Fin 1) (0 : Fin 1) x (⟨l.val, by omega⟩ : Fin 512))) + b (ix4 (0 : Fin 1) (0 : Fin 1) (0 : Fin 1) (⟨l.val, by omega⟩ : Fin 512))
      = ((1 / 2 : ℝ) : EReal) * z)
    (hi : (∑ x : Fin 256, u (ix2 r x) * w (ix4 (0 : Fin 1) (0 : Fin 1) x (⟨256 + l.val, by omega⟩ : Fin 512))) + b (ix4 (0 : Fin 1) (0 : Fin 1) (0 : Fin 1) (⟨256 + l.val, by omega⟩ : Fin 512))
      = ((1 / 2 : ℝ) : EReal) * zi)
    (hu : u (ix2 r l) = ((1 / 2 : ℝ) : EReal) * u0) :
    coefB u w b lam (ix2 r l) = weight z (lam (ix3 (0 : Fin 1) (0 : Fin 1) l)) * (Ideal.logistic zi * u0) := by
  pointwise [coefB, k0_pay13, k0_pay12, k0_pay11, k0_pay10, k0_pay9, k0_pay8, k0_pay7, k0_pay6]
  clean_types
  rw [if_neg (show ¬((0 : EReal) - lam (ix3 (0 : Fin 1) (0 : Fin 1) l) ≠ 0 - lam (ix3 (0 : Fin 1) (0 : Fin 1) l)) from fun h => h rfl)]
  rw [Scalar.lit_neg_four]
  simp only [zero_sub]
  rw [← gated_eq zi u0]
  have hL := log_decay_eq z _ hl
  rw [← hz] at hL
  have hW := weight_eq _ z _ hl hL
  simp only [zero_sub] at hW
  refine congrArg₂ (· * ·) ?_ (congrArg₂ (· * ·) (congrArg (· + 1) (congrArg Ideal.tanh hi)) hu)
  exact hW

end Cert.Proof.Rglru

end
-- ==== Proof.Rglru.RefCoef.lean ====
/- Hand-written: the reference's coefficients, entry by entry. -/
module

public import proofs.«01_k».proof.Proof.Rglru.Coef
public import proofs.«01_k».proof.Proof.Gen.ReferenceIdeal.Step
public import Idealize.ShloMosaic.Lib.Pointwise
public import Idealize.ShloMosaic.Lib.Tactic.CleanTypes

@[expose] public section

set_option maxRecDepth 16384

noncomputable section

namespace Cert.Proof.Rglru

open Idealize.ShloMosaic Idealize.ShloMosaic.Pointwise Idealize.ShloMosaic.TcCoe Idealize.SL.Sem
open Cert.ReferenceIdeal Cert.ReferenceIdeal.Gen Cert.ReferenceIdeal.Step

variable (x0 : FVec Ideal S8x4096x1024 .f32) (x1 : FVec Ideal S2x16x64x64 .f32) (x2 : FVec Ideal S2x1024 .f32) (x3 : FVec Ideal S2x16x64x64 .f32)
  (x4 x5 : FVec Ideal S2x1024 .f32)

/-- A gate's argument at head `h` and lane `j` of the head. -/
def gateArg (x : FVec Ideal S8x4096x1024 .f32) (w : FVec Ideal S2x16x64x64 .f32) (bias : FVec Ideal S2x1024 .f32) (b : Fin 8) (t : Fin 4096) (h : Fin 16)
    (j : Fin 64) : EReal :=
  (∑ k : Fin 64, w (ix4 (0 : Fin 2) h k j) * x (ix3 b t (⟨h.val * 64 + k.val, by omega⟩ : Fin 1024))) + bias (ix2 (0 : Fin 2) (⟨64 * h.val + j.val, by omega⟩ : Fin 1024))

theorem gate_a (b : Fin 8) (t : Fin 4096) (h : Fin 16) (j : Fin 64) :
    A_main_v10 (F := Ideal) x0 x1 x2 x3 x4 x5 (ix3 b t (⟨64 * h.val + j.val, by omega⟩ : Fin 1024)) = gateArg x0 x1 x2 b t h j := by
  pointwise [A_main_v10, A_main_v9, A_main_v8, A_main_v7, A_main_v6, A_main_v5, A_main_v4, A_main_v3, A_main_v2, A_main_v1, A_main_v0]
  clean_types
  rfl

theorem gate_b (b : Fin 8) (t : Fin 4096) (h : Fin 16) (j : Fin 64) :
    A_main_v26 (F := Ideal) x0 x1 x2 x3 x4 x5 (ix3 b t (⟨64 * h.val + j.val, by omega⟩ : Fin 1024)) = gateArg x0 x3 x4 b t h j := by
  pointwise [A_main_v26, A_main_v25, A_main_v24, A_main_v23, A_main_v22, A_main_v21, A_main_v20, A_main_v19, A_main_v18, A_main_v17, A_main_v0]
  clean_types
  rfl

/-- The reference's decay is the exponential of its logarithm. -/
theorem decay_a (b : Fin 8) (t : Fin 4096) (d : Fin 1024) :
    A_main_v42 (F := Ideal) x0 x1 x2 x3 x4 x5 (ix3 b t d) = Ideal.exp (logDecay (A_main_v10 (F := Ideal) x0 x1 x2 x3 x4 x5 (ix3 b t d)) (x5 (ix2 (0 : Fin 2) d))) := by
  pointwise [A_main_v42, A_main_v41, A_main_v40, A_main_v39, A_main_v38, A_main_v37, A_main_v36, A_main_v35, A_main_v34, A_main_v16, A_main_v14, A_main_v12, A_main_v11, A_main_call0_v1, A_main_call0_v3, A_main_call0_v4, A_main_call0_v6, A_main_call0_v7, A_main_call0_v8, A_main_call0_v9, A_main_call0_v10, A_main_call0_v11, K_main_cst, K_main_v13, K_main_cst_0, K_main_v15, K_main_cst_3, K_main_v33, K_main_call0_cst, K_main_call0_v0, K_main_call0_v2, K_main_call0_v5]
  clean_types
  rw [if_neg (by simp)]
  simp only [Scalar.lit_neg_eight]
  rfl

theorem input_b (b : Fin 8) (t : Fin 4096) (d : Fin 1024) :
    A_main_v49 (F := Ideal) x0 x1 x2 x3 x4 x5 (ix3 b t d)
      = weight (A_main_v10 (F := Ideal) x0 x1 x2 x3 x4 x5 (ix3 b t d)) (x5 (ix2 (0 : Fin 2) d))
        * (Ideal.logistic (A_main_v26 (F := Ideal) x0 x1 x2 x3 x4 x5 (ix3 b t d)) * x0 (ix3 b t d)) := by
  pointwise [A_main_v49, A_main_v48, A_main_v47, A_main_v46, A_main_v45, A_main_v44, A_main_v32, A_main_v30, A_main_v28, A_main_v27, K_main_v43, K_main_cst_4, K_main_cst_1, K_main_v29, K_main_cst_2, K_main_v31, A_main_v41, A_main_v40, A_main_v39, A_main_v38, A_main_v37, A_main_v36, A_main_v35, A_main_v34, A_main_v16, A_main_v14, A_main_v12, A_main_v11, A_main_call0_v1, A_main_call0_v3, A_main_call0_v4, A_main_call0_v6, A_main_call0_v7, A_main_call0_v8, A_main_call0_v9, A_main_call0_v10, A_main_call0_v11, K_main_cst, K_main_v13, K_main_cst_0, K_main_v15, K_main_cst_3, K_main_v33, K_main_call0_cst, K_main_call0_v0, K_main_call0_v2, K_main_call0_v5]
  clean_types
  rw [if_neg (by simp)]
  simp only [Scalar.lit_neg_eight, Scalar.lit_two]
  rfl

end Cert.Proof.Rglru

end
-- ==== Proof.Rglru.RefLoop.lean ====
/- Hand-written: what the reference's loop leaves after its trips. -/
module

public import proofs.«01_k».proof.Proof.Gen.ReferenceIdeal.Run
public import proofs.«01_k».proof.Proof.Gen.ReferenceIdeal.Step
public import proofs.«01_k».proof.Proof.Rglru.Lin
public import Idealize.ShloMosaic.Lib.DynamicIndex
public import Idealize.ShloMosaic.Lib.Pipeline.Value

@[expose] public section

noncomputable section

namespace Cert.Proof.Rglru

open Idealize.ShloMosaic Idealize.ShloMosaic.Pointwise Idealize.ShloMosaic.TcCoe Idealize.SL.Sem
open Idealize.ShloMosaic.StableHlo
open Cert.ReferenceIdeal Cert.ReferenceIdeal.Gen Cert.ReferenceIdeal.Value

/-- A coefficient array at one batch row and lane, by step number. -/
def along (a : FVec Ideal S8x4096x1024 .f32) (b : Fin 8) (d : Fin 1024) (t : ℕ) : EReal :=
  if h : t < 4096 then a (ix3 b ⟨t, h⟩ d) else 0

theorem slices_row (n : ℕ) (hn : n < 4096) : S8x4096x1024.Slices ![0, n, 0] S8x1x1024 := by
  refine ⟨rfl, fun a => ?_⟩
  fin_cases a
  · show 0 + 8 ≤ 8; omega
  · show n + 1 ≤ 4096; omega
  · show 0 + 1024 ≤ 1024; omega

theorem slices_put (n : ℕ) (hn : n < 4096) : S4096x8x1024.Slices ![n, 0, 0] S1x8x1024 := by
  refine ⟨rfl, fun a => ?_⟩
  fin_cases a
  · show n + 1 ≤ 4096; omega
  · show 0 + 8 ≤ 8; omega
  · show 0 + 1024 ≤ 1024; omega

/-- The reference's row of a coefficient array at the loop's index. -/
theorem row_at (x : FVec Ideal S8x4096x1024 .f32) (start : Fin 3 → Int) (n : ℕ) (hn : n < 4096) (h0 : start 0 = 0) (h1 : start 1 = n) (h2 : start 2 = 0)
    (hs : S8x4096x1024.Slices (fun _ => 0) S8x1x1024) (hc : S8x1x1024.ShapeCasts S8x1024) (b : Fin 8) (d : Fin 1024) :
    shapeCast S8x1024 (Host.dynamicSlice S8x1x1024 x start hs) hc (ix2 b d) = x (ix3 b ⟨n, hn⟩ d) := by
  rw [Host.dynamicSlice_eq_extractStridedSlice S8x1x1024 x start ![0, n, 0] hs (slices_row n hn) (by
    intro a; fin_cases a
    · exact h0
    · exact h1
    · exact h2)]
  pointwise

/-- The reference's update of the result's row at the loop's index. -/
theorem put_at (x : FVec Ideal S4096x8x1024 .f32) (u : FVec Ideal S1x8x1024 .f32) (start : Fin 3 → Int) (n : ℕ) (hn : n < 4096) (h0 : start 0 = n) (h1 : start 1 = 0)
    (h2 : start 2 = 0) (hs : S4096x8x1024.Slices (fun _ => 0) S1x8x1024) (t : Fin 4096) (b : Fin 8) (d : Fin 1024) :
    Host.dynamicUpdateSlice x u start hs (ix3 t b d) = if t.val = n then u (ix3 0 b d) else x (ix3 t b d) := by
  rw [Host.dynamicUpdateSlice_eq_updateSlice x u start hs ![n, 0, 0] (by
    intro a; fin_cases a
    · show (min (max (start 0) 0) ((4096 - 1 : Nat) : Int)).toNat = n; rw [h0]; omega
    · show (min (max (start 1) 0) ((8 - 8 : Nat) : Int)).toNat = 0; rw [h1]; rfl
    · show (min (max (start 2) 0) ((1024 - 1024 : Nat) : Int)).toNat = 0; rw [h2]; rfl) (slices_put n hn)]
  pointwise
  by_cases e : t.val = n
  · rw [if_pos e, dif_pos ⟨by omega, by omega⟩]
    congr 2
    exact Fin.ext (by show t.val - n = 0; omega)
  · rw [if_neg e, dif_neg (by omega)]

/-- What the loop's buffers hold before trip `n`. -/
structure Held (V : Valuation τ sig (Elt Ideal)) (a bb : FVec Ideal S8x4096x1024 .f32) (h0 : FVec Ideal S8x1024 .f32) (n : ℕ) : Prop where
  ha : V (Proc.devRef .tc main_v51_0) = a
  hb : V (Proc.devRef .tc main_v51_1) = bb
  hn : V (Proc.devRef .tc main_v51_3) = constantI S_ 32 (BitVec.ofNat 32 n)
  hh : ∀ b d, (V (Proc.devRef .tc main_v51_4) : FVec Ideal S8x1024 .f32) (ix2 b d) = lin (along a b d) (along bb b d) (h0 (ix2 b d)) n
  ho : ∀ t b d, t.val < n → (V (Proc.devRef .tc main_v51_5) : FVec Ideal S4096x8x1024 .f32) (ix3 t b d) = lin (along a b d) (along bb b d) (h0 (ix2 b d)) (t.val + 1)

/-- The state that trip `n` makes. -/
theorem held_new {V : Valuation τ sig (Elt Ideal)} {a bb : FVec Ideal S8x4096x1024 .f32} {h0 : FVec Ideal S8x1024 .f32} {n : ℕ} (hn : n < 4096)
    (H : Held V a bb h0 n) (b : Fin 8) (d : Fin 1024) :
    (res_main_while0b_v79 V : FVec Ideal S8x1024 .f32) (ix2 b d) = lin (along a b d) (along bb b d) (h0 (ix2 b d)) (n + 1) := by
  have e : res_main_while0b_v54 V = constantI S_ 32 (BitVec.ofNat 32 n) := H.hn
  have e' : res_main_while0b_v67 V = constantI S_ 32 (BitVec.ofNat 32 n) := H.hn
  have w : ∀ i : S_.Idx, BitVec.toInt (select (cmpi .slt (constantI S_ 32 (BitVec.ofNat 32 n)) (constantI S_ 32 0#32))
      (addi (constantI S_ 32 (BitVec.ofNat 32 n)) (constantI S_ 32 4096#32)) (constantI S_ 32 (BitVec.ofNat 32 n)) i) = (n : Int) :=
    fun i => toInt_wrap_ofNat n (by omega)
  unfold res_main_while0b_v79
  rw [e, e']
  show (_ : EReal) * _ + _ = along a b d n * lin (along a b d) (along bb b d) (h0 (ix2 b d)) n + along bb b d n
  have ea : along a b d n = a (ix3 b ⟨n, hn⟩ d) := dif_pos hn
  have eb : along bb b d n = bb (ix3 b ⟨n, hn⟩ d) := dif_pos hn
  rw [ea, eb, ← H.hh b d, ← H.ha, ← H.hb]
  refine congrArg₂ _ (congrArg₂ _ ?_ rfl) ?_
  · exact row_at _ _ n hn rfl (w _) rfl _ _ b d
  · exact row_at _ _ n hn rfl (w _) rfl _ _ b d

/-- One trip. -/
theorem held_step {V : Valuation τ sig (Elt Ideal)} {a bb : FVec Ideal S8x4096x1024 .f32} {h0 : FVec Ideal S8x1024 .f32} {n : ℕ} (hn : n < 4096)
    (H : Held V a bb h0 n) : Held (STEP V) a bb h0 (n + 1) where
  ha := (STEP_main_v51_0 V).trans H.ha
  hb := (STEP_main_v51_1 V).trans H.hb
  hn := by
    refine (STEP_main_v51_3 V).trans ?_
    unfold step_main_v51_3
    rw [H.hn]
    funext i
    show BitVec.ofNat 32 n + 1#32 = BitVec.ofNat 32 (n + 1)
    simp only [BitVec.ofNat_add]
  hh b d := (congrFun (STEP_main_v51_4 V) (ix2 b d)).trans (held_new hn H b d)
  ho t b d ht := by
    refine (congrFun (STEP_main_v51_5 V) (ix3 t b d)).trans ?_
    unfold step_main_v51_5
    rw [H.hn]
    refine (put_at _ _ _ n hn (toInt_wrap_ofNat n (by omega)) rfl rfl _ t b d).trans ?_
    by_cases hlt : t.val = n
    · rw [if_pos hlt, hlt, ← held_new hn H b d]
      pointwise
    · rw [if_neg hlt]
      exact H.ho t b d (by omega)

variable (m : (ℓ : Loc nD τ sig) → Buf (Elt Ideal) ℓ) (c : Dev nD)

/-- The decay coefficients, from the arguments. -/
abbrev refA : FVec Ideal S8x4096x1024 .f32 :=
  Step.A_main_v42 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The input coefficients, from the arguments. -/
abbrev refB : FVec Ideal S8x4096x1024 .f32 :=
  Step.A_main_v49 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

set_option maxRecDepth 65536 in
set_option maxHeartbeats 1000000 in
theorem entry_a : entryContents preI m c (Proc.devRef .tc main_v51_0) = refA m c := by
  simp only [entryContents, afterL_cons, afterL_nil]; after_reads_simp; rfl

set_option maxRecDepth 65536 in
set_option maxHeartbeats 1000000 in
theorem entry_b : entryContents preI m c (Proc.devRef .tc main_v51_1) = refB m c := by
  simp only [entryContents, afterL_cons, afterL_nil]; after_reads_simp; rfl

set_option maxRecDepth 65536 in
set_option maxHeartbeats 1000000 in
theorem entry_n : entryContents preI m c (Proc.devRef .tc main_v51_3) = constantI S_ 32 (BitVec.ofNat 32 0) := by
  simp only [entryContents, afterL_cons, afterL_nil]; after_reads_simp; rfl

set_option maxRecDepth 65536 in
set_option maxHeartbeats 1000000 in
theorem entry_h : entryContents preI m c (Proc.devRef .tc main_v51_4) = m ((c.tc : Thread nD τ).loc main_arg6) := by
  simp only [entryContents, afterL_cons, afterL_nil]; after_reads_simp; rfl

/-- What the loop's buffers hold before every trip. -/
theorem held_iter : ∀ n ≤ 4096, Held (STEP^[n] (entryContents preI m c)) (refA m c) (refB m c) (m ((c.tc : Thread nD τ).loc main_arg6)) n
  | 0, _ =>
    { ha := entry_a m c
      hb := entry_b m c
      hn := entry_n m c
      hh := fun b d => congrFun (entry_h m c) (ix2 b d)
      ho := fun _ _ _ h => absurd h (Nat.not_lt_zero _) }
  | n + 1, hn => by
    rw [Function.iterate_succ_apply']
    exact held_step (by omega) (held_iter n (by omega))

/-- The reference's first result at step `t`, batch row `b` and lane `d`. -/
theorem out_at (t : Fin 4096) (b : Fin 8) (d : Fin 1024) :
    (out_main_v52 (STEP^[4096] (entryContents preI m c)) : FVec Ideal S32768x1024 .f32) (ix2 ⟨8 * t.val + b.val, by omega⟩ d)
      = lin (along (refA m c) b d) (along (refB m c) b d) ((m ((c.tc : Thread nD τ).loc main_arg6) : FVec Ideal S8x1024 .f32) (ix2 b d)) (t.val + 1) := by
  refine Eq.trans ?_ ((held_iter m c 4096 le_rfl).ho t b d t.isLt)
  unfold out_main_v52
  pointwise

/-- The reference's second result. -/
theorem last_at (b : Fin 8) (d : Fin 1024) :
    ((STEP^[4096] (entryContents preI m c)) (Proc.devRef .tc main_v51_4) : FVec Ideal S8x1024 .f32) (ix2 b d)
      = lin (along (refA m c) b d) (along (refB m c) b d) ((m ((c.tc : Thread nD τ).loc main_arg6) : FVec Ideal S8x1024 .f32) (ix2 b d)) 4096 :=
  (held_iter m c 4096 le_rfl).hh b d

end Cert.Proof.Rglru

end
-- ==== Proof.Rglru.Point.lean ====
/- Hand-written: the coefficients that a grid point of the forward recurrence computes are the reference's. -/
module

public import proofs.«01_k».proof.Proof.Rglru.HostW
public import proofs.«01_k».proof.Proof.Rglru.Blocks
public import proofs.«01_k».proof.Proof.Rglru.Chunk
public import proofs.«01_k».proof.Proof.Rglru.KerCoef
public import proofs.«01_k».proof.Proof.Rglru.RefCoef
public import proofs.«01_k».proof.Proof.Rglru.RefLoop

@[expose] public section

noncomputable section

namespace Cert.Proof.Rglru

open Idealize.ShloMosaic Idealize.ShloMosaic.Pointwise Idealize.ShloMosaic.TcCoe Idealize.SL.Sem
open Cert.KernelIdeal Cert.KernelIdeal.Gen

variable (m : (ℓ : Loc nD τ sig) → Buf (Elt Ideal) ℓ) (d : Dev nD)

/-- The reference's coefficients, from the kernel's arguments. -/
abbrev rA : FVec Ideal S8x4096x1024 .f32 :=
  Cert.ReferenceIdeal.Step.A_main_v42 (F := Ideal) (argU m d) (argWa m d) (argBa m d) (argWx m d) (argBx m d) (argLam m d)
abbrev rB : FVec Ideal S8x4096x1024 .f32 :=
  Cert.ReferenceIdeal.Step.A_main_v49 (F := Ideal) (argU m d) (argWa m d) (argBa m d) (argWx m d) (argBx m d) (argLam m d)

variable (t : Fin cfg0.N)

/-- The head of lane `l` of a point's tile, and the lane's place in its head. -/
def head (l : Fin 256) : Fin 16 := ⟨t.val / 8 * 4 + l.val / 64, by have := t_lt t; omega⟩
def group (l : Fin 256) : Fin 4 := ⟨l.val / 64, by omega⟩
def sub (l : Fin 256) : Fin 64 := ⟨l.val % 64, by omega⟩

/-- The time of a point's step `r`. -/
def time (r : ℕ) (hr : r < 512) : Fin 4096 := ⟨512 * (t.val % 8) + r, by omega⟩

theorem lane_eq (l : Fin 256) : lane t l = (⟨64 * (head t l).val + (sub l).val, by have := (head t l).isLt; have := (sub l).isLt; omega⟩ : Fin 1024) :=
  Fin.ext (by show 256 * (t.val / 8) + l.val = 64 * (t.val / 8 * 4 + l.val / 64) + l.val % 64; omega)

theorem row_u (r : ℕ) (hr : r < 512) (b : Fin 8) (x : Fin 256) :
    rows512 (iblk m d 0 t) (r / 64) (ix2 (⟨8 * (r % 64) + b.val, by omega⟩ : Fin 512) x)
      = ((1 / 2 : ℝ) : EReal) * argU m d (ix3 b (time t r hr) (lane t x)) := by
  have h0 := chunkOf_emb0 (r / 64) (ix2 (⟨8 * (r % 64) + b.val, by omega⟩ : Fin 512) x)
  have h1 := chunkOf_emb1 (r / 64) (ix2 (⟨8 * (r % 64) + b.val, by omega⟩ : Fin 512) x)
  have e : (chunkOf (r / 64)).emb (ix2 (⟨8 * (r % 64) + b.val, by omega⟩ : Fin 512) x) = ix2 (⟨8 * r + b.val, by omega⟩ : Fin 4096) x := funext fun a => Fin.ext (by
    match a with
    | ⟨0, _⟩ => exact h0.trans (by show 512 * (r / 64 % 8) + (8 * (r % 64) + b.val) = 8 * r + b.val; omega)
    | ⟨1, _⟩ => exact h1)
  refine (congrArg (iblk m d 0 t : FVec Ideal S4096x256 .f32) e).trans ((blk_u m d t _ x).trans ?_)
  refine congrArg (fun y => ((1 / 2 : ℝ) : EReal) * argU m d y) (funext fun a => Fin.ext ?_)
  match a with
  | ⟨0, _⟩ => show (8 * r + b.val) % 8 = b.val; omega
  | ⟨1, _⟩ => show 512 * (t.val % 8) + (8 * r + b.val) / 8 = 512 * (t.val % 8) + r; omega
  | ⟨2, _⟩ => rfl

variable (r : ℕ) (hr : r < 512) (b : Fin 8) (l : Fin 256)

/-- The halved argument of the decay gate. -/
theorem arg_a :
    (∑ x : Fin 256, rows512 (iblk m d 0 t) (r / 64) (ix2 (⟨8 * (r % 64) + b.val, by omega⟩ : Fin 512) x)
        * (iblk m d 1 t : FVec Ideal S1x1x256x512 .f32) (ix4 (0 : Fin 1) (0 : Fin 1) x (⟨l.val, by omega⟩ : Fin 512)))
      + (iblk m d 2 t : FVec Ideal S1x1x1x512 .f32) (ix4 (0 : Fin 1) (0 : Fin 1) (0 : Fin 1) (⟨l.val, by omega⟩ : Fin 512))
      = ((1 / 2 : ℝ) : EReal) * gateArg (argU m d) (argWa m d) (argBa m d) b (time t r hr) (head t l) (sub l) := by
  refine (half_arg (fun x => rows512 (iblk m d 0 t) (r / 64) (ix2 (⟨8 * (r % 64) + b.val, by omega⟩ : Fin 512) x))
    (fun x => (iblk m d 1 t : FVec Ideal S1x1x256x512 .f32) (ix4 (0 : Fin 1) (0 : Fin 1) x (⟨l.val, by omega⟩ : Fin 512)))
    (fun x => argU m d (ix3 b (time t r hr) (lane t x))) (fun k => argWa m d (ix4 (0 : Fin 2) (head t l) k (sub l))) _
    (argBa m d (ix2 (0 : Fin 2) (lane t l))) (group l) (row_u m d t r hr b) (fun h k => ?_) ?_).trans ?_
  · refine (blk_w m d t _ _).trans ((congrArg (fun y : Fin 512 => (V m d main_v84 : FVec Ideal S2x4x256x512 .f32) (ix4 (0 : Fin 2) (tile t) (⟨64 * h.val + k.val, by omega⟩ : Fin 256) y))
      (Fin.ext (by show l.val = 64 * (group l).val + (sub l).val; show l.val = 64 * (l.val / 64) + l.val % 64; omega))).trans (V_wa m d (tile t) h (group l) k (sub l)))
  · refine (blk_b m d t _).trans ((V_ba m d (tile t) l).trans ?_)
    refine congrArg (fun y => ((1 / 2 : ℝ) : EReal) * argBa m d (ix2 (0 : Fin 2) y)) (Fin.ext ?_)
    show t.val / 8 * 256 + l.val = 256 * (t.val / 8) + l.val
    omega
  · refine congrArg (((1 / 2 : ℝ) : EReal) * ·) (congrArg₂ (· + ·) (Finset.sum_congr rfl fun k _ => ?_) ?_)
    · refine congrArg (fun y => argWa m d (ix4 (0 : Fin 2) (head t l) k (sub l)) * argU m d (ix3 b (time t r hr) y)) (Fin.ext ?_)
      show 256 * (t.val / 8) + (64 * (l.val / 64) + k.val) = (t.val / 8 * 4 + l.val / 64) * 64 + k.val
      omega
    · exact congrArg (fun y => argBa m d (ix2 (0 : Fin 2) y)) (lane_eq t l)

/-- The halved argument of the input gate. -/
theorem arg_x :
    (∑ x : Fin 256, rows512 (iblk m d 0 t) (r / 64) (ix2 (⟨8 * (r % 64) + b.val, by omega⟩ : Fin 512) x)
        * (iblk m d 1 t : FVec Ideal S1x1x256x512 .f32) (ix4 (0 : Fin 1) (0 : Fin 1) x (⟨256 + l.val, by omega⟩ : Fin 512)))
      + (iblk m d 2 t : FVec Ideal S1x1x1x512 .f32) (ix4 (0 : Fin 1) (0 : Fin 1) (0 : Fin 1) (⟨256 + l.val, by omega⟩ : Fin 512))
      = ((1 / 2 : ℝ) : EReal) * gateArg (argU m d) (argWx m d) (argBx m d) b (time t r hr) (head t l) (sub l) := by
  refine (half_arg (fun x => rows512 (iblk m d 0 t) (r / 64) (ix2 (⟨8 * (r % 64) + b.val, by omega⟩ : Fin 512) x))
    (fun x => (iblk m d 1 t : FVec Ideal S1x1x256x512 .f32) (ix4 (0 : Fin 1) (0 : Fin 1) x (⟨256 + l.val, by omega⟩ : Fin 512)))
    (fun x => argU m d (ix3 b (time t r hr) (lane t x))) (fun k => argWx m d (ix4 (0 : Fin 2) (head t l) k (sub l))) _
    (argBx m d (ix2 (0 : Fin 2) (lane t l))) (group l) (row_u m d t r hr b) (fun h k => ?_) ?_).trans ?_
  · refine (blk_w m d t _ _).trans ((congrArg (fun y : Fin 512 => (V m d main_v84 : FVec Ideal S2x4x256x512 .f32) (ix4 (0 : Fin 2) (tile t) (⟨64 * h.val + k.val, by omega⟩ : Fin 256) y))
      (Fin.ext (by show 256 + l.val = 256 + (64 * (l.val / 64) + l.val % 64); omega))).trans (V_wx m d (tile t) h (group l) k (sub l)))
  · refine (blk_b m d t _).trans ((V_bx m d (tile t) l).trans ?_)
    refine congrArg (fun y => ((1 / 2 : ℝ) : EReal) * argBx m d (ix2 (0 : Fin 2) y)) (Fin.ext ?_)
    show t.val / 8 * 256 + l.val = 256 * (t.val / 8) + l.val
    omega
  · refine congrArg (((1 / 2 : ℝ) : EReal) * ·) (congrArg₂ (· + ·) (Finset.sum_congr rfl fun k _ => ?_) ?_)
    · refine congrArg (fun y => argWx m d (ix4 (0 : Fin 2) (head t l) k (sub l)) * argU m d (ix3 b (time t r hr) y)) (Fin.ext ?_)
      show 256 * (t.val / 8) + (64 * (l.val / 64) + k.val) = (t.val / 8 * 4 + l.val / 64) * 64 + k.val
      omega
    · exact congrArg (fun y => argBx m d (ix2 (0 : Fin 2) y)) (lane_eq t l)

/-- The reference's gate arguments at a lane of the point's tile. -/
theorem gate_a_lane (s : Fin 4096) :
    Cert.ReferenceIdeal.Step.A_main_v10 (F := Ideal) (argU m d) (argWa m d) (argBa m d) (argWx m d) (argBx m d) (argLam m d) (ix3 b s (lane t l))
      = gateArg (argU m d) (argWa m d) (argBa m d) b s (head t l) (sub l) :=
  (congrArg (fun y => Cert.ReferenceIdeal.Step.A_main_v10 (F := Ideal) (argU m d) (argWa m d) (argBa m d) (argWx m d) (argBx m d) (argLam m d) (ix3 b s y)) (lane_eq t l)).trans
    (gate_a (argU m d) (argWa m d) (argBa m d) (argWx m d) (argBx m d) (argLam m d) b s (head t l) (sub l))

theorem gate_b_lane (s : Fin 4096) :
    Cert.ReferenceIdeal.Step.A_main_v26 (F := Ideal) (argU m d) (argWa m d) (argBa m d) (argWx m d) (argBx m d) (argLam m d) (ix3 b s (lane t l))
      = gateArg (argU m d) (argWx m d) (argBx m d) b s (head t l) (sub l) :=
  (congrArg (fun y => Cert.ReferenceIdeal.Step.A_main_v26 (F := Ideal) (argU m d) (argWa m d) (argBa m d) (argWx m d) (argBx m d) (argLam m d) (ix3 b s y)) (lane_eq t l)).trans
    (gate_b (argU m d) (argWa m d) (argBa m d) (argWx m d) (argBx m d) (argLam m d) b s (head t l) (sub l))

variable (hlam : ∀ k : Fin 1024, argLam m d (ix2 (0 : Fin 2) k) ≠ ⊥)

include hlam in
theorem stepA : stepOf (iblk m d 0 t) (iblk m d 1 t) (iblk m d 2 t) (iblk m d 3 t) coefA b l r = rA m d (ix3 b (time t r hr) (lane t l)) := by
  have hl := blk_lam m d t l
  refine (coefA_at _ _ _ _ (⟨8 * (r % 64) + b.val, by omega⟩ : Fin 512) l _ (fun h => hlam (lane t l) (hl.symm.trans h)) (arg_a m d t r hr b l)).trans ?_
  refine Eq.trans ?_ (decay_a (argU m d) (argWa m d) (argBa m d) (argWx m d) (argBx m d) (argLam m d) b (time t r hr) (lane t l)).symm
  exact congrArg Ideal.exp (congrArg₂ logDecay (gate_a_lane m d t b l (time t r hr)).symm hl)

include hlam in
theorem stepB : stepOf (iblk m d 0 t) (iblk m d 1 t) (iblk m d 2 t) (iblk m d 3 t) coefB b l r = rB m d (ix3 b (time t r hr) (lane t l)) := by
  have hl := blk_lam m d t l
  refine (coefB_at _ _ _ _ (⟨8 * (r % 64) + b.val, by omega⟩ : Fin 512) l _ _ _ (fun h => hlam (lane t l) (hl.symm.trans h)) (arg_a m d t r hr b l)
    (arg_x m d t r hr b l) (row_u m d t r hr b l)).trans ?_
  refine Eq.trans ?_ (input_b (argU m d) (argWa m d) (argBa m d) (argWx m d) (argBx m d) (argLam m d) b (time t r hr) (lane t l)).symm
  exact congrArg₂ (· * ·) (congrArg₂ weight (gate_a_lane m d t b l (time t r hr)).symm hl)
    (congrArg₂ (· * ·) (congrArg Ideal.logistic (gate_b_lane m d t b l (time t r hr)).symm) rfl)

end Cert.Proof.Rglru

end
-- ==== Proof.Rglru.Grid.lean ====
/- Hand-written: the forward recurrence over the grid, and the claim that its results are the reference's. -/
module

public import proofs.«01_k».proof.Proof.Rglru.Bodies
public import proofs.«01_k».proof.Proof.Rglru.Point

@[expose] public section

noncomputable section

namespace Cert.Proof.Rglru

open Idealize.ShloMosaic Idealize.ShloMosaic.Pointwise Idealize.ShloMosaic.TcCoe Idealize.SL.Sem
open Cert.KernelIdeal Cert.KernelIdeal.Gen

variable (m : (ℓ : Loc nD τ sig) → Buf (Elt Ideal) ℓ) (d : Dev nD)

theorem along_eq (a : FVec Ideal S8x4096x1024 .f32) (b : Fin 8) (k : Fin 1024) (n : ℕ) (h : n < 4096) : along a b k n = a (ix3 b ⟨n, h⟩ k) := by
  unfold along
  exact dif_pos h

/-- The state after `n` steps of the recurrence, at one batch row and one lane. -/
def L (b : Fin 8) (k : Fin 1024) (n : ℕ) : EReal := lin (along (rA m d) b k) (along (rB m d) b k) (argH m d (ix2 b k)) n

variable (hlam : ∀ k : Fin 1024, argLam m d (ix2 (0 : Fin 2) k) ≠ ⊥)

include hlam in
/-- A point runs its chunk of the recurrence. -/
theorem chunk_lin (t : Fin cfg0.N) (h : EReal) (b : Fin 8) (l : Fin 256) (n : ℕ) (hn : n ≤ 512) (hh : h = L m d b (lane t l) (512 * (t.val % 8))) :
    chunkLin (iblk m d 0 t) (iblk m d 1 t) (iblk m d 2 t) (iblk m d 3 t) h b l n = L m d b (lane t l) (512 * (t.val % 8) + n) := by
  refine Eq.trans ?_ (lin_add _ _ _ (512 * (t.val % 8)) n).symm
  refine lin_congr _ _ _ _ _ _ n hh (fun r h => ?_) (fun r h => ?_)
  · have hr : r < 512 := by omega
    exact (stepA m d t r hr b l hlam).trans (along_eq (rA m d) b (lane t l) (512 * (t.val % 8) + r) (time t r hr).isLt).symm
  · have hr : r < 512 := by omega
    exact (stepB m d t r hr b l hlam).trans (along_eq (rB m d) b (lane t l) (512 * (t.val % 8) + r) (time t r hr).isLt).symm

theorem first_state (t : Fin cfg0.N) (h0 : t.val % 8 = 0) (b : Fin 8) (l : Fin 256) :
    (iblk m d 4 t : FVec Ideal S8x256 .f32) (ix2 b l) = L m d b (lane t l) (512 * (t.val % 8)) := by
  rw [h0]
  exact blk_h m d t b l

/-- What a point leaves, by its case. -/
theorem left_A (t : Fin cfg0.N) (h0 : t.val % 8 = 0) (b : Fin 8) (l : Fin 256) :
    (outsAt0 m d t.val t.isLt).2.2 (ix2 b l) = chunkLin (iblk m d 0 t) (iblk m d 1 t) (iblk m d 2 t) (iblk m d 3 t) ((iblk m d 4 t : FVec Ideal S8x256 .f32) (ix2 b l)) b l 512 :=
  (congrFun (congrArg (fun p => p.2.2) (outsAt0_A m d t h0)) (ix2 b l)).trans
    (sout_A d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m d 0 t) (iblk m d 1 t) (iblk m d 2 t) (iblk m d 3 t) (iblk m d 4 t) b l)

theorem five_A (t : Fin cfg0.N) (h0 : t.val % 8 = 0) (y : S4096x256.Idx) :
    (outsAt0 m d t.val t.isLt).1 y
      = chunkLin (iblk m d 0 t) (iblk m d 1 t) (iblk m d 2 t) (iblk m d 3 t) ((iblk m d 4 t : FVec Ideal S8x256 .f32) (inRows y)) (⟨(y 0).val % 8, Nat.mod_lt _ (by decide)⟩ : Fin 8) (⟨(y 1).val, (y 1).isLt⟩ : Fin 256) ((y 0).val / 8 + 1) :=
  (congrFun (congrArg (fun p => p.1) (outsAt0_A m d t h0)) y).trans
    (out5_A d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m d 0 t) (iblk m d 1 t) (iblk m d 2 t) (iblk m d 3 t) (iblk m d 4 t) y)

theorem six_A (t : Fin cfg0.N) (h0 : t.val % 8 = 0) (b : Fin 8) (l : Fin 256) :
    (outsAt0 m d t.val t.isLt).2.1 (ix2 b l) = chunkLin (iblk m d 0 t) (iblk m d 1 t) (iblk m d 2 t) (iblk m d 3 t) ((iblk m d 4 t : FVec Ideal S8x256 .f32) (ix2 b l)) b l 512 :=
  (congrFun (congrArg (fun p => p.2.1) (outsAt0_A m d t h0)) (ix2 b l)).trans
    (out6_A d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (iblk m d 0 t) (iblk m d 1 t) (iblk m d 2 t) (iblk m d 3 t) (iblk m d 4 t) b l)

theorem left_B (t : Fin cfg0.N) (h0 : ¬t.val % 8 = 0) (b : Fin 8) (l : Fin 256) :
    (outsAt0 m d t.val t.isLt).2.2 (ix2 b l) = chunkLin (iblk m d 0 t) (iblk m d 1 t) (iblk m d 2 t) (iblk m d 3 t) ((outsAt0 m d (t.val - 1) (Nat.lt_of_le_of_lt (Nat.sub_le _ _) t.isLt)).2.2 (ix2 b l)) b l 512 :=
  (congrFun (congrArg (fun p => p.2.2) (outsAt0_B m d t h0)) (ix2 b l)).trans
    (sout_B d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m d 0 t) (iblk m d 1 t) (iblk m d 2 t) (iblk m d 3 t) (iblk m d 4 t) (outsAt0 m d (t.val - 1) (Nat.lt_of_le_of_lt (Nat.sub_le _ _) t.isLt)).2.2 b l)

theorem five_B (t : Fin cfg0.N) (h0 : ¬t.val % 8 = 0) (y : S4096x256.Idx) :
    (outsAt0 m d t.val t.isLt).1 y
      = chunkLin (iblk m d 0 t) (iblk m d 1 t) (iblk m d 2 t) (iblk m d 3 t) ((outsAt0 m d (t.val - 1) (Nat.lt_of_le_of_lt (Nat.sub_le _ _) t.isLt)).2.2 (inRows y)) (⟨(y 0).val % 8, Nat.mod_lt _ (by decide)⟩ : Fin 8) (⟨(y 1).val, (y 1).isLt⟩ : Fin 256) ((y 0).val / 8 + 1) :=
  (congrFun (congrArg (fun p => p.1) (outsAt0_B m d t h0)) y).trans
    (out5_B d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m d 0 t) (iblk m d 1 t) (iblk m d 2 t) (iblk m d 3 t) (iblk m d 4 t) (outsAt0 m d (t.val - 1) (Nat.lt_of_le_of_lt (Nat.sub_le _ _) t.isLt)).2.2 y)

theorem six_B (t : Fin cfg0.N) (h0 : ¬t.val % 8 = 0) (b : Fin 8) (l : Fin 256) :
    (outsAt0 m d t.val t.isLt).2.1 (ix2 b l) = chunkLin (iblk m d 0 t) (iblk m d 1 t) (iblk m d 2 t) (iblk m d 3 t) ((outsAt0 m d (t.val - 1) (Nat.lt_of_le_of_lt (Nat.sub_le _ _) t.isLt)).2.2 (ix2 b l)) b l 512 :=
  (congrFun (congrArg (fun p => p.2.1) (outsAt0_B m d t h0)) (ix2 b l)).trans
    (out6_B d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (iblk m d 0 t) (iblk m d 1 t) (iblk m d 2 t) (iblk m d 3 t) (iblk m d 4 t) (outsAt0 m d (t.val - 1) (Nat.lt_of_le_of_lt (Nat.sub_le _ _) t.isLt)).2.2 b l)

include hlam in
/-- The state that a point hands on. -/
theorem carried : ∀ (n : ℕ) (hn : n < cfg0.N) (b : Fin 8) (l : Fin 256),
    (outsAt0 m d n hn).2.2 (ix2 b l) = L m d b (lane ⟨n, hn⟩ l) (512 * (n % 8) + 512) := by
  intro n
  induction n with
  | zero =>
    intro hn b l
    exact (left_A m d ⟨0, hn⟩ rfl b l).trans (chunk_lin m d hlam ⟨0, hn⟩ _ b l 512 le_rfl (first_state m d ⟨0, hn⟩ rfl b l))
  | succ n ih =>
    intro hn b l
    by_cases h0 : (n + 1) % 8 = 0
    · exact (left_A m d ⟨n + 1, hn⟩ h0 b l).trans (chunk_lin m d hlam ⟨n + 1, hn⟩ _ b l 512 le_rfl (first_state m d ⟨n + 1, hn⟩ h0 b l))
    · refine (left_B m d ⟨n + 1, hn⟩ h0 b l).trans (chunk_lin m d hlam ⟨n + 1, hn⟩ _ b l 512 le_rfl ?_)
      refine (ih (by omega) b l).trans (congrArg₂ (L m d b) (Fin.ext ?_) ?_)
      · show 256 * (n / 8) + l.val = 256 * ((n + 1) / 8) + l.val; omega
      · show 512 * (n % 8) + 512 = 512 * ((n + 1) % 8); omega

include hlam in
/-- The state that a point starts from, where it is not the first of its lanes. -/
theorem next_state (t : Fin cfg0.N) (h0 : ¬t.val % 8 = 0) (b : Fin 8) (l : Fin 256) :
    (outsAt0 m d (t.val - 1) (Nat.lt_of_le_of_lt (Nat.sub_le _ _) t.isLt)).2.2 (ix2 b l) = L m d b (lane t l) (512 * (t.val % 8)) := by
  refine (carried m d hlam _ _ b l).trans (congrArg₂ (L m d b) (Fin.ext ?_) ?_)
  · show 256 * ((t.val - 1) / 8) + l.val = 256 * (t.val / 8) + l.val; omega
  · omega

include hlam in
/-- The first result's block. -/
theorem point5 (t : Fin cfg0.N) (y : S4096x256.Idx) :
    (outsAt0 m d t.val t.isLt).1 y
      = L m d (⟨(y 0).val % 8, Nat.mod_lt _ (by decide)⟩ : Fin 8) (lane t (⟨(y 1).val, (y 1).isLt⟩ : Fin 256)) (512 * (t.val % 8) + ((y 0).val / 8 + 1)) := by
  have hy : (y 0).val / 8 + 1 ≤ 512 := by have h : (y 0).val < 4096 := (y 0).isLt; omega
  by_cases h0 : t.val % 8 = 0
  · refine (five_A m d t h0 y).trans ?_
    exact chunk_lin m d hlam t _ _ _ _ hy (first_state m d t h0 _ _)
  · refine (five_B m d t h0 y).trans ?_
    exact chunk_lin m d hlam t _ _ _ _ hy (next_state m d hlam t h0 _ _)

include hlam in
/-- The second result's block. -/
theorem point6 (t : Fin cfg0.N) (b : Fin 8) (l : Fin 256) :
    (outsAt0 m d t.val t.isLt).2.1 (ix2 b l) = L m d b (lane t l) (512 * (t.val % 8) + 512) := by
  by_cases h0 : t.val % 8 = 0
  · refine (six_A m d t h0 b l).trans ?_
    exact chunk_lin m d hlam t _ _ _ _ le_rfl (first_state m d t h0 _ _)
  · refine (six_B m d t h0 b l).trans ?_
    exact chunk_lin m d hlam t _ _ _ _ le_rfl (next_state m d hlam t h0 _ _)

include hlam in
/-- The first result: the states after every step. -/
theorem res5 (t : Fin 4096) (b : Fin 8) (k : Fin 1024) :
    (Value.G5 m d : FVec Ideal S32768x1024 .f32) (ix2 (⟨8 * t.val + b.val, by omega⟩ : Fin 32768) k) = L m d b k (t.val + 1) := by
  have hp : Value.pt5Of (ix2 (⟨8 * t.val + b.val, by omega⟩ : Fin 32768) k) < cfg0.N :=
    lt_of_lt_of_eq (by show 1 * ((8 * t.val + b.val) / 4096 - 0) + 8 * (k.val / 256 - 0) < 32; omega) N_0.symm
  refine (dif_pos hp).trans ?_
  refine (congrFun (congrArg (fun p => p.1) (Value.outsAt0_sweep m d _ hp).symm) _).trans ?_
  refine (point5 m d hlam ⟨_, hp⟩ _).trans ?_
  have e0 : (⟨(8 * t.val + b.val) % 4096 % 8, Nat.mod_lt _ (by decide)⟩ : Fin 8) = b := Fin.ext (by show (8 * t.val + b.val) % 4096 % 8 = b.val; omega)
  have e1 : lane ⟨Value.pt5Of (ix2 (⟨8 * t.val + b.val, by omega⟩ : Fin 32768) k), hp⟩ (⟨k.val % 256, Nat.mod_lt _ (by decide)⟩ : Fin 256) = k := Fin.ext (by
    show 256 * ((1 * ((8 * t.val + b.val) / 4096 - 0) + 8 * (k.val / 256 - 0)) / 8) + k.val % 256 = k.val; omega)
  have e2 : 512 * ((1 * ((8 * t.val + b.val) / 4096 - 0) + 8 * (k.val / 256 - 0)) % 8) + ((8 * t.val + b.val) % 4096 / 8 + 1) = t.val + 1 := by omega
  exact (congrArg (fun x => L m d x _ _) e0).trans (congrArg₂ (L m d b) e1 e2)

include hlam in
/-- The second result: the last states. -/
theorem res6 (b : Fin 8) (k : Fin 1024) : (Value.G6 m d : FVec Ideal S8x1024 .f32) (ix2 b k) = L m d b k 4096 := by
  have hp : Value.pt6Of (ix2 b k) < cfg0.N :=
    lt_of_lt_of_eq (by show 8 * (4 * (b.val / 8 - 0) + 1 * (k.val / 256 - 0)) + 7 < 32; omega) N_0.symm
  refine (dif_pos hp).trans ?_
  refine (congrFun (congrArg (fun p => p.2.1) (Value.outsAt0_sweep m d _ hp).symm) _).trans ?_
  have e0 : (⟨b.val % 8, Nat.mod_lt _ (by decide)⟩ : Fin 8) = b := Fin.ext (by show b.val % 8 = b.val; omega)
  have el : Value.loc6Of (ix2 b k) = ix2 (⟨b.val % 8, Nat.mod_lt _ (by decide)⟩ : Fin 8) (⟨k.val % 256, Nat.mod_lt _ (by decide)⟩ : Fin 256) := funext fun a => by
    match a with
    | ⟨0, _⟩ => rfl
    | ⟨1, _⟩ => rfl
  refine (congrArg (outsAt0 m d _ hp).2.1 el).trans ((point6 m d hlam ⟨_, hp⟩ _ _).trans ?_)
  have e1 : lane ⟨Value.pt6Of (ix2 b k), hp⟩ (⟨k.val % 256, Nat.mod_lt _ (by decide)⟩ : Fin 256) = k := Fin.ext (by
    show 256 * ((8 * (4 * (b.val / 8 - 0) + 1 * (k.val / 256 - 0)) + 7) / 8) + k.val % 256 = k.val; omega)
  have e2 : 512 * ((8 * (4 * (b.val / 8 - 0) + 1 * (k.val / 256 - 0)) + 7) % 8) + 512 = 4096 := by omega
  exact (congrArg (fun x => L m d x _ _) e0).trans (congrArg₂ (L m d b) e1 e2)

end Cert.Proof.Rglru

end
-- ==== Proof.Rglru.Pre.lean ====
/- Hand-written: what the precondition says of the decay parameters. -/
module

public import proofs.«01_k».proof.Defs
public import Idealize.ShloMosaic.Lib.ReduceAll
public import Idealize.ShloMosaic.Lib.Pointwise
public import Idealize.ShloMosaic.Lib.Tactic.CleanTypes

@[expose] public section

set_option maxRecDepth 16384

noncomputable section

namespace Cert.Proof.Rglru

open Idealize.ShloMosaic Idealize.ShloMosaic.Pointwise Idealize.ShloMosaic.TcCoe Idealize.SL.Sem
open Cert.Pre_lam_above_bottom

/-- Where the precondition holds, no decay parameter of the forward direction is −∞. -/
theorem lam_ne_bot [Cert.Pre_lam_above_bottom.Facts] (x0 : FVec Ideal S8x4096x1024 .f32) (x1 : FVec Ideal S2x16x64x64 .f32) (x2 : FVec Ideal S2x1024 .f32)
    (x3 : FVec Ideal S2x16x64x64 .f32) (x4 x5 : FVec Ideal S2x1024 .f32) (x6 : FVec Ideal S8x1024 .f32)
    (h : fn (F := Ideal) x0 x1 x2 x3 x4 x5 x6 = fun _ => 1#1) (k : Fin 1024) : x5 (ix2 (0 : Fin 2) k) ≠ ⊥ := by
  have e := Host.reduce_andi_all _ _ _ _ (Shape.Idx.first Facts.h_S_) (congrFun h _) (ix1 k)
  have e' : BitVec.ofBool (decide (Ideal.ofBits FTy.f32 4286578688#32 < x5 (ix2 (0 : Fin 2) k))) = 1#1 := by
    pointwise at e
    exact e
  intro hb
  rw [hb, decide_eq_false not_lt_bot] at e'
  exact absurd e' (by decide)

end Cert.Proof.Rglru

end
-- ==== Proof.Rglru.Final.lean ====
/- Hand-written: the value claim of the forward recurrence. -/
module

public import proofs.«01_k».proof.Proof.Rglru.Grid
public import proofs.«01_k».proof.Proof.Rglru.Pre

@[expose] public section

noncomputable section

namespace Cert.Proof.Rglru

open Idealize.ShloMosaic Idealize.ShloMosaic.Pointwise Idealize.ShloMosaic.TcCoe Idealize.SL.Sem
open Cert.KernelIdeal Cert.KernelIdeal.Gen

/-- The reference's recurrence depends on its arguments only. -/
theorem ref_lin (x0 y0 : FVec Ideal S8x4096x1024 .f32) (x1 y1 : FVec Ideal S2x16x64x64 .f32) (x2 y2 : FVec Ideal S2x1024 .f32)
    (x3 y3 : FVec Ideal S2x16x64x64 .f32) (x4 y4 x5 y5 : FVec Ideal S2x1024 .f32) (x6 y6 : FVec Ideal S8x1024 .f32)
    (e0 : y0 = x0) (e1 : y1 = x1) (e2 : y2 = x2) (e3 : y3 = x3) (e4 : y4 = x4) (e5 : y5 = x5) (e6 : y6 = x6) (b : Fin 8) (k : Fin 1024) (n : ℕ) :
    lin (along (Cert.ReferenceIdeal.Step.A_main_v42 (F := Ideal) y0 y1 y2 y3 y4 y5) b k) (along (Cert.ReferenceIdeal.Step.A_main_v49 (F := Ideal) y0 y1 y2 y3 y4 y5) b k) (y6 (ix2 b k)) n
      = lin (along (Cert.ReferenceIdeal.Step.A_main_v42 (F := Ideal) x0 x1 x2 x3 x4 x5) b k) (along (Cert.ReferenceIdeal.Step.A_main_v49 (F := Ideal) x0 x1 x2 x3 x4 x5) b k) (x6 (ix2 b k)) n := by
  subst e0 e1 e2 e3 e4 e5 e6
  rfl

/-- The forward recurrence's claim. -/
theorem algebraic [hPre : Cert.Pre_lam_above_bottom.Facts] : Cert.algebraic_KernelIdeal_ReferenceIdeal_pre_lam_above_bottom := by
  intro m g m' g' hpre hargs
  refine ⟨fun c => Value.G5 m c, fun c => Value.G6 m c, (θ_run _ _ _).mono (fun r h c => ?_) (Value.run m g),
    (θ_run _ _ _).mono (fun r h c => ?_) (Cert.ReferenceIdeal.Value.run m' g')⟩
  · exact h c
  · obtain ⟨h5, h6, h⟩ := h c
    obtain ⟨a0, a1, a2, a3, a4, a5, a6⟩ := hargs c
    have hlam := lam_ne_bot _ _ _ _ _ _ _ (hpre c)
    refine ⟨h5.trans (funext fun (i : S32768x1024.Idx) => ?_), h6.trans (funext fun (i : S8x1024.Idx) => ?_), h⟩
    · obtain ⟨t, b, k, rfl⟩ : ∃ (t : Fin 4096) (b : Fin 8) (k : Fin 1024), i = ix2 (⟨8 * t.val + b.val, by omega⟩ : Fin 32768) k := by
        have h0 : (i 0).val < 32768 := (i 0).isLt
        refine ⟨⟨(i 0).val / 8, by omega⟩, ⟨(i 0).val % 8, by omega⟩, i 1, funext fun a => Fin.ext ?_⟩
        match a with
        | ⟨0, _⟩ => show (i 0).val = 8 * ((i 0).val / 8) + (i 0).val % 8; omega
        | ⟨1, _⟩ => rfl
      refine (out_at m' c t b k).trans (Eq.trans ?_ (res5 m c hlam t b k).symm)
      exact ref_lin _ _ _ _ _ _ _ _ _ _ _ _ _ _ a0 a1 a2 a3 a4 a5 a6 b k _
    · obtain ⟨b, k, rfl⟩ : ∃ (b : Fin 8) (k : Fin 1024), i = ix2 b k := ⟨i 0, i 1, funext fun a => by
        match a with
        | ⟨0, _⟩ => rfl
        | ⟨1, _⟩ => rfl⟩
      refine (last_at m' c b k).trans (Eq.trans ?_ (res6 m c hlam b k).symm)
      exact ref_lin _ _ _ _ _ _ _ _ _ _ _ _ _ _ a0 a1 a2 a3 a4 a5 a6 b k _

end Cert.Proof.Rglru

end
-- ==== Proof.lean ====
/- Hand-written: the proof of `Cert.Claim`, assembled from the generated frames and the value claims of Proof/. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.KernelIdeal.Value
public import proofs.«01_k».proof.Proof.Gen.Pre_lam_above_bottom
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Ffn.Final
public import proofs.«01_k».proof.Proof.Merge.Final
public import proofs.«01_k».proof.Proof.Rglru.Final
public import Idealize.ShloMosaic.Lib.Quiescent

@[expose] public section

noncomputable section

namespace Cert.Proof

open Idealize.ShloMosaic Idealize.SL.Sem

/-- A reference is host operations only: it declares no semaphore, and its run leaves the arguments as they were. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_ref4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_lam_above_bottom.Gen.facts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    fun m ρ _ => Cert.Kernel3.Gen.frame m ρ,
    fun m ρ _ => Cert.Kernel3Ideal.Gen.frame m ρ,
    frame_ref3,
    fun m ρ _ => Cert.Kernel4.Gen.frame m ρ,
    fun m ρ _ => Cert.Kernel4Ideal.Gen.frame m ρ,
    frame_ref4,
    trivial, Rglru.algebraic (hPre := Cert.Pre_lam_above_bottom.Gen.facts), trivial, Ffn.algebraic, trivial, Merge.algebraic⟩

end Cert.Proof

end
